-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S12x256x256 : Shape := ⟨3, ![12, 256, 256]⟩
abbrev S12 : Shape := ⟨1, ![12]⟩
abbrev S_ : Shape := ⟨0, ![]⟩
abbrev S256x256 : Shape := ⟨2, ![256, 256]⟩
abbrev S256x512 : Shape := ⟨2, ![256, 512]⟩
abbrev S1x256x256 : Shape := ⟨3, ![1, 256, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x256, .bf16⟩
  | .hbm, ⟨1, _⟩ => ⟨S256x1024, .bf16⟩
  | .hbm, ⟨2, _⟩ => ⟨S256x1024, .f32⟩
  | .local _ .vmem, ⟨0, _⟩ => ⟨S1024x256, .bf16⟩
  | .local _ .vmem, ⟨1, _⟩ => ⟨S256x1024, .bf16⟩
  | .local _ .vmem, ⟨2, _⟩ => ⟨S256x1024, .f32⟩
  | .local _ .vmem, ⟨3, _⟩ => ⟨S12x256x256, .bf16⟩
  | .local _ .vmem, ⟨4, _⟩ => ⟨S12x256x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c2_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c2_i32_10
  let c4_i32_11 : BitVec 32 := 4#32
  let v14 : BitVec 32 := Scalar.remsi v13 c4_i32_11
  let c256_i32 : BitVec 32 := 256#32
  let v15 : BitVec 32 := Scalar.muli v14 c256_i32
  let v16 : Index := Scalar.indexCast v15
  let c0 : Index := 0#32
  ![v16.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_21 : BitVec 32 := 1#32
  let v27 : BitVec 32 := Scalar.muli v5 c1_i32_21
  let v28 : BitVec 32 := Scalar.addi c0_i32_22 v27
  v28.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_33 : BitVec 32 := 1#32
  let v42 : BitVec 32 := Scalar.muli v5 c1_i32_33
  let v43 : BitVec 32 := Scalar.addi c0_i32_34 v42
  v43.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_50 : BitVec 32 := 1#32
  let v66 : BitVec 32 := Scalar.muli v7 c1_i32_50
  let v67 : BitVec 32 := Scalar.addi c0_i32_51 v66
  v67.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_61 : BitVec 32 := 1#32
  let v81 : BitVec 32 := Scalar.muli v7 c1_i32_61
  let v82 : BitVec 32 := Scalar.addi c0_i32_62 v81
  v82.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_79 : BitVec 32 := 1#32
  let v105 : BitVec 32 := Scalar.muli v5 c1_i32_79
  let v106 : BitVec 32 := Scalar.addi c0_i32_80 v105
  v106.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_91 : BitVec 32 := 1#32
  let v120 : BitVec 32 := Scalar.muli v5 c1_i32_91
  let v121 : BitVec 32 := Scalar.addi c0_i32_92 v120
  v121.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_109 : BitVec 32 := 1#32
  let v144 : BitVec 32 := Scalar.muli v7 c1_i32_109
  let v145 : BitVec 32 := Scalar.addi c0_i32_110 v144
  v145.toNat
def k0_dev10 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_120 : BitVec 32 := 1#32
  let v159 : BitVec 32 := Scalar.muli v7 c1_i32_120
  let v160 : BitVec 32 := Scalar.addi c0_i32_121 v159
  v160.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_126 : BitVec 32 := 4#32
  let v169 : BitVec 32 := Scalar.remsi v2 c4_i32_126
  let c256_i32_127 : BitVec 32 := 256#32
  let v170 : BitVec 32 := Scalar.muli v169 c256_i32_127
  let v171 : Index := Scalar.indexCast v170
  let c0_128 : Index := 0#32
  ![v171.toNat, 0]
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_151 : BitVec 32 := 1#32
  let v194 : BitVec 32 := Scalar.muli v5 c1_i32_151
  let v195 : BitVec 32 := Scalar.addi c0_i32_152 v194
  v195.toNat
def k0_dev12 (d0 : Dev nD) : Nat :=
  let c0_i32_176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_175 : BitVec 32 := 1#32
  let v221 : BitVec 32 := Scalar.muli v7 c1_i32_175
  let v222 : BitVec 32 := Scalar.addi c0_i32_176 v221
  v222.toNat
def k0_dev13 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_199 : BitVec 32 := 1#32
  let v248 : BitVec 32 := Scalar.muli v5 c1_i32_199
  let v249 : BitVec 32 := Scalar.addi c0_i32_200 v248
  v249.toNat
def k0_dev14 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_223 : BitVec 32 := 1#32
  let v275 : BitVec 32 := Scalar.muli v7 c1_i32_223
  let v276 : BitVec 32 := Scalar.addi c0_i32_224 v275
  v276.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Protocol.lean ====
/-
# The protocol of the reduce-scatter: who waits, who pays, how much, and what each landing hands over

Four devices in a ring. Device `c` computes the partial products of its own columns of `x` with its own rows of
`w_mat` and sends them, in bf16, around the ring; a device adds what it received to its own partial product.

* The BARRIER semaphore of `c` (one unit from each neighbour, waited for 2): the neighbour's unit hands `c` that
  neighbour's receive slots for the messages that go from `c` to it.
* MESSAGE `j` of device `c`, `j < 12`: the send slot `j` of `c`, copied into the receive slot `j` of the neighbour
  `tgt j c` (the device below for `j < 6`, the device above for `j ≥ 6`). The copy raises `c`'s send semaphore `j`,
  whose wait gives the send slot back, and the target's receive semaphore `j`, whose wait hands the target its
  receive slot holding `msg j c`.
* Messages 0, 1, 2, 3, 6, 7, 8, 9 hold a device's own partial product; 4, 5, 10, 11 hold a partial product with the
  received message 0, 1, 6, 7 added.

Every semaphore has one round. Levels: barrier 1; receive semaphores of the first kind 2, of the second kind 3;
all others 0. Each wait is at a level below everything the device still owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of this proof's semaphore rounds (duties named by a `Bool`), -/
abbrev UB : Type := URounds (GSem nD τ sig) Bool
/-- beside the pipeline library's own. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

set_option backward.proofsInPublic true in
/-- The device above, -/
def up (c : Dev nD) : Dev nD := ⟨(c.val + 1) % 4, Nat.mod_lt _ (by decide)⟩
set_option backward.proofsInPublic true in
/-- the device below. -/
def dn (c : Dev nD) : Dev nD := ⟨(c.val + 3) % 4, Nat.mod_lt _ (by decide)⟩

theorem dn_up (c : Dev nD) : dn (up c) = c := by revert c; decide
theorem up_dn (c : Dev nD) : up (dn c) = c := by revert c; decide

/-- One step around the ring. -/
def ring : Dev nD ≃ Dev nD := ⟨up, dn, dn_up, up_dn⟩

/-- Where message `j` of device `c` goes, -/
def tgt (j : Fin 12) (c : Dev nD) : Dev nD := if j.val < 6 then dn c else up c
/-- and whose message `j` device `c` receives. -/
def src (j : Fin 12) (c : Dev nD) : Dev nD := if j.val < 6 then up c else dn c

theorem src_tgt (j : Fin 12) (c : Dev nD) : src j (tgt j c) = c := by
  unfold src tgt; split
  · exact up_dn c
  · exact dn_up c
theorem tgt_src (j : Fin 12) (c : Dev nD) : tgt j (src j c) = c := by
  unfold src tgt; split
  · exact dn_up c
  · exact up_dn c

/-- The routes of message `j` as a permutation of the devices. -/
def route (j : Fin 12) : Dev nD ≃ Dev nD := ⟨tgt j, src j, src_tgt j, tgt_src j⟩

/-- The devices the kernel addresses: the first signal goes down, the second up; -/
theorem dev1_eq (c : Dev nD) : (⟨k0_dev1 c, k0_dev1_lt c⟩ : Dev nD) = dn c := Fin.ext (k0_dev1_eq c)
theorem dev2_eq (c : Dev nD) : (⟨k0_dev2 c, k0_dev2_lt c⟩ : Dev nD) = up c := Fin.ext (k0_dev2_eq c)
/-- the twelve transfers, in the order the kernel starts them. -/
theorem dev3_eq (c : Dev nD) : (⟨k0_dev3 c, k0_dev3_lt c⟩ : Dev nD) = tgt 0 c := Fin.ext (k0_dev3_eq c)
theorem dev4_eq (c : Dev nD) : (⟨k0_dev4 c, k0_dev4_lt c⟩ : Dev nD) = tgt 1 c := Fin.ext (k0_dev4_eq c)
theorem dev5_eq (c : Dev nD) : (⟨k0_dev5 c, k0_dev5_lt c⟩ : Dev nD) = tgt 6 c := Fin.ext (k0_dev5_eq c)
theorem dev6_eq (c : Dev nD) : (⟨k0_dev6 c, k0_dev6_lt c⟩ : Dev nD) = tgt 7 c := Fin.ext (k0_dev6_eq c)
theorem dev7_eq (c : Dev nD) : (⟨k0_dev7 c, k0_dev7_lt c⟩ : Dev nD) = tgt 2 c := Fin.ext (k0_dev7_eq c)
theorem dev8_eq (c : Dev nD) : (⟨k0_dev8 c, k0_dev8_lt c⟩ : Dev nD) = tgt 3 c := Fin.ext (k0_dev8_eq c)
theorem dev9_eq (c : Dev nD) : (⟨k0_dev9 c, k0_dev9_lt c⟩ : Dev nD) = tgt 8 c := Fin.ext (k0_dev9_eq c)
theorem dev10_eq (c : Dev nD) : (⟨k0_dev10 c, k0_dev10_lt c⟩ : Dev nD) = tgt 9 c := Fin.ext (k0_dev10_eq c)
theorem dev11_eq (c : Dev nD) : (⟨k0_dev11 c, k0_dev11_lt c⟩ : Dev nD) = tgt 4 c := Fin.ext (k0_dev11_eq c)
theorem dev12_eq (c : Dev nD) : (⟨k0_dev12 c, k0_dev12_lt c⟩ : Dev nD) = tgt 10 c := Fin.ext (k0_dev12_eq c)
theorem dev13_eq (c : Dev nD) : (⟨k0_dev13 c, k0_dev13_lt c⟩ : Dev nD) = tgt 5 c := Fin.ext (k0_dev13_eq c)
theorem dev14_eq (c : Dev nD) : (⟨k0_dev14 c, k0_dev14_lt c⟩ : Dev nD) = tgt 11 c := Fin.ext (k0_dev14_eq c)

/-! ## The memrefs, the slots, the semaphores -/

abbrev xM : Memref sig .tc .vmem S1024x256 .bf16 := Memref.whole cc0_stg0_0
abbrev wM : Memref sig .tc .vmem S256x1024 .bf16 := Memref.whole cc0_stg1_0
abbrev oM : Memref sig .tc .vmem S256x1024 .f32 := Memref.whole cc0_stg2_0
/-- The send buffer and the receive buffer: twelve slots each. -/
abbrev sM : Memref sig .tc .vmem S12x256x256 .bf16 := Memref.whole cc0_scratch0
abbrev rM : Memref sig .tc .vmem S12x256x256 .bf16 := Memref.whole cc0_scratch1

theorem slot_inb (j : Fin 12) : ∀ a, (![j.val, 0, 0] : Fin 3 → ℕ) a + S1x256x256.size a ≤ S12x256x256.size a := by
  revert j; decide
theorem sem_inb (j : Fin 12) : ∀ a, (![j.val] : Fin 1 → ℕ) a + S1.size a ≤ S12.size a := by
  revert j; decide

/-- The elements of slot `j`. -/
abbrev slotR (j : Fin 12) : Rect S12x256x256 := Rect.unit (s := S12x256x256) ![j.val, 0, 0] S1x256x256.size (slot_inb j)
/-- Slot `j` of a slot buffer, as a transfer names it. -/
abbrev slotM (M : Memref sig .tc .vmem S12x256x256 .bf16) (j : Fin 12) : Memref sig .tc .vmem S256x256 .bf16 :=
  (M.slice (slotR j) (fun _ => rfl)).squeeze S256x256 squeezes_S1x256x256_S256x256

/-- The barrier semaphore; the send and the receive semaphore of message `j`. -/
abbrev barS : Sem sig := (SemArray.scalar (sig.barrier 0 rfl) : Sems sig S_).sem
abbrev sndS (j : Fin 12) : DmaSem sig :=
  ((cc0_scratch2.slice (Rect.unit (s := S12) ![j.val] S1.size (sem_inb j))).squeeze S_ squeezes_S1_S_ : DmaSems sig S_).sem
abbrev rcvS (j : Fin 12) : DmaSem sig :=
  ((cc0_scratch3.slice (Rect.unit (s := S12) ![j.val] S1.size (sem_inb j))).squeeze S_ squeezes_S1_S_ : DmaSems sig S_).sem

theorem sndS_val (j : Fin 12) : (sndS j).val = 3 + j.val := by revert j; decide
theorem rcvS_val (j : Fin 12) : (rcvS j).val = 15 + j.val := by revert j; decide

abbrev barCell (c : Dev nD) : GSem nD τ sig := ((c : Thread nD τ), .reg barS)
abbrev sndCell (j : Fin 12) (c : Dev nD) : GSem nD τ sig := ((c : Thread nD τ), .dma (sndS j))
abbrev rcvCell (j : Fin 12) (c : Dev nD) : GSem nD τ sig := ((c : Thread nD τ), .dma (rcvS j))

/-- What one message raises a semaphore by. -/
abbrev N : ℕ := (slotM rM 0).view.dmaCredit
theorem N_pos : 0 < N := View.dmaCredit_pos _ (by decide)
theorem credit_r (j : Fin 12) : (slotM rM j).view.dmaCredit = N := rfl
theorem credit_s (j : Fin 12) : (slotM sM j).view.dmaCredit = N := rfl

/-! ## Contents -/

/-- The blocks of `x` and of `w_mat` that device `c` holds, staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The 256 rows of `c`'s `x` that belong to the device two, three (or one below), one above; and to `c` itself. -/
def x2 (c : Dev nD) : Vec F S256x256 .bf16 :=
  xM.view.readAt (Elt F) (Rect.unit (s := S1024x256) (k0_off1 c 2#32) S256x256.size (k0_off1_inb c 1)).toLoadRect (xstg m c)
def x3 (c : Dev nD) : Vec F S256x256 .bf16 :=
  xM.view.readAt (Elt F) (Rect.unit (s := S1024x256) (k0_off1 c 3#32) S256x256.size (k0_off1_inb c 2)).toLoadRect (xstg m c)
def x1 (c : Dev nD) : Vec F S256x256 .bf16 :=
  xM.view.readAt (Elt F) (Rect.unit (s := S1024x256) (k0_off1 c 1#32) S256x256.size (k0_off1_inb c 0)).toLoadRect (xstg m c)
def x0 (c : Dev nD) : Vec F S256x256 .bf16 :=
  xM.view.readAt (Elt F) (Rect.unit (s := S1024x256) (k0_off2 c) S256x256.size (k0_off2_inb c)).toLoadRect (xstg m c)

/-- The left half, the right half and the whole of `c`'s `w_mat`. -/
def wL (c : Dev nD) : Vec F S256x512 .bf16 :=
  wM.view.readAt (Elt F) (Rect.unit (s := S256x1024) ![0, 0] S256x512.size inb_S256x1024_S256x512_0_0).toLoadRect (wstg m c)
def wR (c : Dev nD) : Vec F S256x512 .bf16 :=
  wM.view.readAt (Elt F) (Rect.unit (s := S256x1024) ![0, 512] S256x512.size inb_S256x1024_S256x512_0_512).toLoadRect (wstg m c)
def wA (c : Dev nD) : Vec F S256x1024 .bf16 :=
  wM.view.readAt (Elt F) (Rect.unit (s := S256x1024) ![0, 0] S256x1024.size inb_S256x1024_S256x1024_0_0).toLoadRect (wstg m c)

/-- The partial products of `c` for the device below, for the device above, for itself. -/
def p3 (c : Dev nD) : FVec F S256x1024 .f32 := k0_pay8 (x3 m c) (wA m c)
def p1 (c : Dev nD) : FVec F S256x1024 .f32 := k0_pay11 (x1 m c) (wA m c)
def p0 (c : Dev nD) : FVec F S256x1024 .f32 := k0_pay14 (x0 m c) (wA m c)

/-- The four messages that a neighbour adds to and passes on. -/
def msg0 (c : Dev nD) : Vec F S1x256x256 .bf16 := k0_pay2 (x2 m c) (wL m c)
def msg1 (c : Dev nD) : Vec F S1x256x256 .bf16 := k0_pay3 (k0_pay1 (x2 m c) (wL m c))
def msg6 (c : Dev nD) : Vec F S1x256x256 .bf16 := k0_pay6 (k0_pay4 (x2 m c)) (wR m c)
def msg7 (c : Dev nD) : Vec F S1x256x256 .bf16 := k0_pay7 (k0_pay4 (x2 m c)) (wR m c)

/-- The contents of message `j` of device `c`. -/
def msg (j : Fin 12) (c : Dev nD) : Vec F S1x256x256 .bf16 :=
  match j with
  | 0 => msg0 m c
  | 1 => msg1 m c
  | 2 => k0_pay9 (x3 m c) (wA m c)
  | 3 => k0_pay10 (x3 m c) (wA m c)
  | 4 => k0_pay15 (p3 m c) (msg0 m (up c))
  | 5 => k0_pay17 (p3 m c) (msg1 m (up c))
  | 6 => msg6 m c
  | 7 => msg7 m c
  | 8 => k0_pay12 (x1 m c) (wA m c)
  | 9 => k0_pay13 (p1 m c)
  | 10 => k0_pay16 (p1 m c) (msg6 m (dn c))
  | 11 => k0_pay19 (k0_pay18 (p1 m c)) (msg7 m (dn c))

/-- What `c` receives as message `j`. -/
def got (j : Fin 12) (c : Dev nD) : Vec F S1x256x256 .bf16 := msg m j (src j c)

/-! ## The slots' ownership -/

/-- Slot `j` of a slot buffer, as a load or a store names it. -/
abbrev slotA (M : Memref sig .tc .vmem S12x256x256 .bf16) (j : Fin 12) : View sig .tc .vmem S1x256x256 .bf16 := M.access (slotR j)

/-- Device `c` owns slot `j` of `M`, which holds `P`; -/
def slotPts (M : Memref sig .tc .vmem S12x256x256 .bf16) (j : Fin 12) (c : Dev nD) (P : Vec F S1x256x256 .bf16) : sProp 𝕄 :=
  iprop(∃ f : Buf (Elt F) (M.view.loc (c : Thread nD τ)), ⌜M.view.readAt (Elt F) (slotR j).toLoadRect f = P⌝
    ∗ (M.view.loc (c : Thread nD τ) ↦[(M.access (slotR j)).set]{fullShare} f))
/-- which holds anything. -/
def slotAny (M : Memref sig .tc .vmem S12x256x256 .bf16) (j : Fin 12) (c : Dev nD) : sProp 𝕄 :=
  iprop(∃ f : Buf (Elt F) (M.view.loc (c : Thread nD τ)), (M.view.loc (c : Thread nD τ) ↦[(M.access (slotR j)).set]{fullShare} f))

omit [FloatOps F] in
instance slotPts_storable (M : Memref sig .tc .vmem S12x256x256 .bf16) (j : Fin 12) (c : Dev nD) (P : Vec F S1x256x256 .bf16) :
    BI.Storable (upEmb : UEmb _ 𝕄) (slotPts M j c P) := by unfold slotPts; infer_instance
omit [FloatOps F] in
instance slotAny_storable (M : Memref sig .tc .vmem S12x256x256 .bf16) (j : Fin 12) (c : Dev nD) :
    BI.Storable (upEmb : UEmb _ 𝕄) (slotAny M j c) := by unfold slotAny; infer_instance

omit [FloatOps F] in
theorem slotAny_of_pts (M : Memref sig .tc .vmem S12x256x256 .bf16) (j : Fin 12) (c : Dev nD) (P : Vec F S1x256x256 .bf16) :
    slotPts M j c P ⊢ slotAny M j c := by
  unfold slotPts slotAny
  iintro ⟨%f, -, H⟩
  iexists f; iexact H

/-! ## The schedule -/

/-- The messages a signal of the neighbour above (`true`) or below (`false`) makes room for. -/
def side (d : Bool) : Finset (Fin 12) := Finset.univ.filter fun j => (if j.val < 6 then false else true) = d

/-- What the neighbours' signals hand `c`: their receive slots for the messages that `c` sends. -/
def barPay (c : Dev nD) (d : Bool) : sProp 𝕄 := bigSep (side d) fun j => slotAny (F := F) rM j (tgt j c)

omit [FloatOps F] in
instance barPay_storable (c : Dev nD) (d : Bool) : BI.Storable (upEmb : UEmb _ 𝕄) (barPay (F := F) c d) := by unfold barPay; infer_instance

/-- One round, round 0: a barrier cell has the duties `true` (the neighbour above) and `false` (below) of one unit
    each; a send or receive cell the duty `false` of one message's credit. -/
def rsRd : Rounds.Schedule (GSem nD τ sig) Bool 𝕄 where
  duties g r := if r = 0 ∧ g.1.2 = .tc then
      (match g.2 with
        | .reg s => if s = barS then Finset.univ else ∅
        | .dma q => if 3 ≤ q.val then {false} else ∅)
    else ∅
  unitless _ := False
  amount g _ _ := match g.2 with
    | .reg _ => 1
    | .dma _ => N
  payload g _ d := match g.2 with
    | .reg _ => barPay g.1.1 d
    | .dma q =>
      if h : 15 ≤ q.val ∧ q.val < 27 then slotPts rM ⟨q.val - 15, by omega⟩ g.1.1 (got m ⟨q.val - 15, by omega⟩ g.1.1)
      else if h : 3 ≤ q.val ∧ q.val < 15 then slotAny sM ⟨q.val - 3, by omega⟩ g.1.1
      else iprop(emp)
  amount_pos g _ _ _ := by
    rcases g with ⟨t, s | q⟩
    · exact Nat.one_pos
    · exact N_pos

instance rsRd_payload_storable (g : GSem nD τ sig) (r : ℕ) (d : Bool) :
    BI.Storable (upEmb : UEmb _ 𝕄) ((rsRd (F := F) m).payload g r d) := by
  rcases g with ⟨t, s | q⟩
  · show BI.Storable upEmb (barPay (F := F) t.1 d); infer_instance
  · dsimp only [rsRd]; (repeat' split) <;> infer_instance

section Sched
variable (c : Dev nD) (j : Fin 12)

theorem duties_bar : (rsRd (F := F) m).duties (barCell c) 0 = Finset.univ := by
  dsimp only [rsRd]; rw [if_pos ⟨rfl, rfl⟩, if_pos rfl]
theorem duties_snd : (rsRd (F := F) m).duties (sndCell j c) 0 = {false} := by
  dsimp only [rsRd]; rw [if_pos ⟨rfl, rfl⟩, if_pos (by rw [sndS_val]; omega)]
theorem duties_rcv : (rsRd (F := F) m).duties (rcvCell j c) 0 = {false} := by
  dsimp only [rsRd]; rw [if_pos ⟨rfl, rfl⟩, if_pos (by rw [rcvS_val]; omega)]
theorem duties_later (g : GSem nD τ sig) : ∀ r, 1 ≤ r → (rsRd (F := F) m).duties g r = ∅ :=
  fun r hr => by dsimp only [rsRd]; rw [if_neg fun h => by omega]

theorem amount_bar (d : Bool) : (rsRd (F := F) m).amount (barCell c) 0 d = 1 := rfl
theorem amount_snd (d : Bool) : (rsRd (F := F) m).amount (sndCell j c) 0 d = N := rfl
theorem amount_rcv (d : Bool) : (rsRd (F := F) m).amount (rcvCell j c) 0 d = N := rfl

theorem expect_bar : (rsRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_snd : (rsRd (F := F) m).expect (sndCell j c) 0 = N := by
  unfold Schedule.expect Schedule.amountOf; rw [duties_snd, Finset.sum_singleton, amount_snd]
theorem expect_rcv : (rsRd (F := F) m).expect (rcvCell j c) 0 = N := by
  unfold Schedule.expect Schedule.amountOf; rw [duties_rcv, Finset.sum_singleton, amount_rcv]

theorem payload_bar (d : Bool) : (rsRd (F := F) m).payload (barCell c) 0 d = barPay c d := rfl
theorem payload_rcv (d : Bool) : (rsRd (F := F) m).payload (rcvCell j c) 0 d = slotPts rM j c (got m j c) := by
  have hv := rcvS_val j
  have hj : (⟨(rcvS j).val - 15, by omega⟩ : Fin 12) = j := Fin.ext (by show (rcvS j).val - 15 = j.val; omega)
  dsimp only [rsRd]; rw [dif_pos ⟨by omega, by omega⟩, hj]
theorem payload_snd (d : Bool) : (rsRd (F := F) m).payload (sndCell j c) 0 d = slotAny sM j c := by
  have hv := sndS_val j
  have hj : (⟨(sndS j).val - 3, by omega⟩ : Fin 12) = j := Fin.ext (by show (sndS j).val - 3 = j.val; omega)
  dsimp only [rsRd]; rw [dif_neg (by omega), dif_pos ⟨by omega, by omega⟩, hj]

/-- The whole round of the barrier cell hands `c` every receive slot it writes. -/
theorem rest_bar : bigSep ((rsRd (F := F) m).duties (barCell c) 0 \ ∅) (fun d => (rsRd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_snd : bigSep ((rsRd (F := F) m).duties (sndCell j c) 0 \ ∅) (fun d => (rsRd (F := F) m).payload (sndCell j c) 0 d)
    = slotAny sM j c := by
  rw [Finset.sdiff_empty, duties_snd, bigSep_singleton, payload_snd]
theorem rest_rcv : bigSep ((rsRd (F := F) m).duties (rcvCell j c) 0 \ ∅) (fun d => (rsRd (F := F) m).payload (rcvCell j c) 0 d)
    = slotPts rM j c (got m j c) := by
  rw [Finset.sdiff_empty, duties_rcv, bigSep_singleton, payload_rcv]

end Sched

/-! ## What a device owes, and the levels -/

/-- The credit of the messages `l` of device `c`, at their targets. -/
def owed (c : Dev nD) : List (Fin 12) → CellTallies nD τ sig Unit
  | [] => 0
  | j :: l => owed c l + tallyAt (rcvCell j (tgt j c)) () N

/-- The messages in the order the kernel starts them. -/
abbrev order : List (Fin 12) := [0, 1, 6, 7, 2, 3, 8, 9, 4, 10, 5, 11]

/-- At launch: every message, and a unit to each neighbour's barrier (the first signal, to the device below, last). -/
def O₀ (c : Dev nD) : CellTallies nD τ sig Unit := owed c order + tallyAt (barCell (up c)) () 1 + tallyAt (barCell (dn c)) () 1

def L (g : GSem nD τ sig) : Finset Unit := if g.1.2 = .tc then {()} else ∅
/-- Message number `n` counts as second if it adds to a received one. -/
def lvR (n : ℕ) : ℕ := if n = 4 ∨ n = 5 ∨ n = 10 ∨ n = 11 then 3 else 2
def lv (g : GSem nD τ sig) (_ : Unit) : ℕ := match g.2 with
  | .reg _ => 1
  | .dma q => if 15 ≤ q.val then lvR (q.val - 15) else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _

theorem lv_bar (c : Dev nD) : lv (barCell c) () = 1 := rfl
theorem lv_rcv (j : Fin 12) (c : Dev nD) : lv (rcvCell j c) () = lvR j.val := by
  dsimp only [lv]; rw [if_pos (by rw [rcvS_val]; omega), rcvS_val, Nat.add_sub_cancel_left]
theorem lvR_two_le (n : ℕ) : 2 ≤ lvR n := by unfold lvR; split <;> decide

theorem owed_pos {c : Dev nD} {l : List (Fin 12)} {g : GSem nD τ sig} {u : Unit} (h : 0 < owed c l g u) :
    ∃ j ∈ l, g = rcvCell j (tgt j c) := by
  induction l with
  | nil => exact absurd h (Nat.lt_irrefl 0)
  | cons j l ih =>
    unfold owed at h
    rw [Pi.add_apply, Finsupp.add_apply, tallyAt_apply] at h
    by_cases hg : g = rcvCell j (tgt j c) ∧ u = ()
    · exact ⟨j, List.mem_cons_self, hg.1⟩
    · rw [if_neg hg, Nat.add_zero] at h
      obtain ⟨i, hi, hgi⟩ := ih h
      exact ⟨i, List.mem_cons_of_mem _ hi, hgi⟩

theorem O₀_pos {c : Dev nD} {g : GSem nD τ sig} {u : Unit} (h : 0 < O₀ c g u) :
    (∃ j, g = rcvCell j (tgt j c)) ∨ g = barCell (up c) ∨ g = barCell (dn c) := by
  unfold O₀ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨j, -, hj⟩ := owed_pos (l := order) (c := c) (g := g) (u := u) (by simpa using h)
  exact hn.1 ⟨j, hj⟩

omit [FloatOps F] in
/-- A wait of the pipeline on its own staging semaphores, owing everything or nothing. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => mem_L c p.1 p.2)
      (fun g u hg => by rcases O₀_pos hg with ⟨j, rfl⟩ | rfl | rfl <;> exact mem_L _ _ _)
      (fun p hp => by rw [Finset.mem_singleton.mp hp]; dsimp only [lv]; rw [if_neg (by omega)])
      (fun g u hg => by
        rcases O₀_pos hg with ⟨j, rfl⟩ | rfl | rfl
        · rw [lv_rcv]; exact Nat.lt_of_lt_of_le (by decide) (lvR_two_le _)
        · rw [lv_bar]; decide
        · rw [lv_bar]; decide)
  · rw [MayWait_zero]; iintro -; iempintro

omit [FloatOps F] in
/-- At its barrier wait a device owes messages only. -/
theorem mayWait_bar (c : Dev nD) (l : List (Fin 12)) :
    (levAts L lv : sProp 𝕄) ⊢ MayWait (c : Thread nD τ) (.reg barS) () (owed c l) :=
  MayOwe.of_cut (L := L) (lev := lv) 1 (fun p hp => mem_L c p.1 p.2)
    (fun g u hg => by obtain ⟨j, -, rfl⟩ := owed_pos hg; exact mem_L _ _ _)
    (fun p hp => by rw [Finset.mem_singleton.mp hp]; exact (lv_bar c).le)
    (fun g u hg => by obtain ⟨j, -, rfl⟩ := owed_pos hg; rw [lv_rcv]; exact Nat.lt_of_lt_of_le (by decide) (lvR_two_le _))

omit [FloatOps F] in
/-- At its wait for message `j` a device owes messages of a higher level only. -/
theorem mayWait_rcv (j : Fin 12) (c : Dev nD) (l : List (Fin 12)) (hl : ∀ i ∈ l, lvR j.val < lvR i.val) :
    (levAts L lv : sProp 𝕄) ⊢ MayWait (c : Thread nD τ) (.dma (rcvS j)) () (owed c l) :=
  MayOwe.of_cut (L := L) (lev := lv) (lvR j.val) (fun p hp => mem_L c p.1 p.2)
    (fun g u hg => by obtain ⟨j, -, rfl⟩ := owed_pos hg; exact mem_L _ _ _)
    (fun p hp => by rw [Finset.mem_singleton.mp hp]; exact (lv_rcv j c).le)
    (fun g u hg => by obtain ⟨i, hi, rfl⟩ := owed_pos hg; rw [lv_rcv]; exact hl i hi)

end Cert.RsGelu

end
-- ==== Proof.Steps.lean ====
/-
# One rule per effect of the protocol

Each rule takes what the effect uses and gives what it leaves, from the records that every cell's rounds are running.
-/
module

public import proofs.«01_k».proof.Proof.Protocol

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells and their records -/

/-- The semaphores of one device: the barrier, the send and the receive semaphores. -/
abbrev CK : Type := Unit ⊕ (Fin 12 ⊕ Fin 12)
/-- The kernel's own ones among them. -/
def osem : Fin 12 ⊕ Fin 12 → SemLoc sig
  | .inl j => .dma (sndS j)
  | .inr j => .dma (rcvS j)
def csem : CK → SemLoc sig
  | .inl _ => .reg barS
  | .inr k => osem k
def kcell (ck : Dev nD × CK) : GSem nD τ sig := ((ck.1 : Thread nD τ), csem ck.2)

/-- The records every device's run starts from: each cell's rounds run under the name `K`, each at round 0 or later. -/
def records (K : Dev nD × CK → ℕ) : sProp 𝕄 :=
  iprop((bigSep Finset.univ fun ck : Dev nD × CK => cellInv ER (rsRd m) (K ck) (kcell ck))
    ∗ bigSep Finset.univ fun ck : Dev nD × CK => reached ER (kcell ck) 0)

instance records_persistent (K : Dev nD × CK → ℕ) : BI.Persistent (records m K) := by unfold records; infer_instance

variable (K : Dev nD × CK → ℕ)

theorem inv_of (ck : Dev nD × CK) : records m K ⊢ cellInv ER (rsRd m) (K ck) (kcell ck) := by
  have h : (bigSep Finset.univ fun ck : Dev nD × CK => (cellInv ER (rsRd m) (K ck) (kcell ck) : sProp 𝕄))
      ⊢ cellInv ER (rsRd m) (K ck) (kcell ck) := bigSep_elim (Finset.mem_univ ck)
  unfold records
  iintro ⟨HI, -⟩
  iapply h; iexact HI
theorem reached_of (ck : Dev nD × CK) : records m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records
  iintro ⟨-, HR⟩
  iapply h; iexact HR

theorem inv_bar (c : Dev nD) : records m K ⊢ cellInv ER (rsRd m) (K (c, .inl ())) (barCell c) := inv_of m K (c, .inl ())
theorem inv_snd (j : Fin 12) (c : Dev nD) : records m K ⊢ cellInv ER (rsRd m) (K (c, .inr (.inl j))) (sndCell j c) := inv_of m K (c, .inr (.inl j))
theorem inv_rcv (j : Fin 12) (c : Dev nD) : records m K ⊢ cellInv ER (rsRd m) (K (c, .inr (.inr j))) (rcvCell j c) := inv_of m K (c, .inr (.inr j))
theorem reached_bar (c : Dev nD) : records m K ⊢ reached ER (barCell c) 0 := reached_of m K (c, .inl ())
theorem reached_snd (j : Fin 12) (c : Dev nD) : records m K ⊢ reached ER (sndCell j c) 0 := reached_of m K (c, .inr (.inl j))
theorem reached_rcv (j : Fin 12) (c : Dev nD) : records m K ⊢ reached ER (rcvCell j c) 0 := reached_of m K (c, .inr (.inr j))

/-! ## The resources of a message -/

/-- What a device owes, whatever it has waited for. -/
def owing (c : Dev nD) (O : CellTallies nD τ sig Unit) : sProp 𝕄 := iprop(∃ W : Waits sig Unit, owes (c : Thread nD τ) O W)

/-- The right to send message `j`, less the target's slot; -/
def toSend (j : Fin 12) (c : Dev nD) : sProp 𝕄 :=
  iprop(atPos ER (sndCell j c) 0 ∅ 0 ∗ dutyTok ER (sndCell j c) 0 false ∗ dutyTok ER (rcvCell j (tgt j c)) 0 false)
/-- that with the target's slot; -/
def go (j : Fin 12) (c : Dev nD) : sProp 𝕄 := iprop(slotAny (F := F) rM j (tgt j c) ∗ toSend j c)
/-- message `j` on its way: the right to wait for its send semaphore; -/
def sent (j : Fin 12) (c : Dev nD) : sProp 𝕄 := iprop(atPos ER (sndCell j c) 0 ∅ 0 ∗ cred (tallyAt (sndCell j c) () N))
/-- the right to wait for message `j` of the neighbour. -/
def toRecv (j : Fin 12) (c : Dev nD) : sProp 𝕄 := iprop(atPos ER (rcvCell j c) 0 ∅ 0 ∗ cred (tallyAt (rcvCell j c) () N))
/-- After the waits: the slots back, the semaphores at zero. -/
def sentDone (j : Fin 12) (c : Dev nD) : sProp 𝕄 := iprop(slotAny (F := F) sM j c ∗ semVal (sndCell j c) 0)
def recvDone (j : Fin 12) (c : Dev nD) : sProp 𝕄 := iprop(slotPts rM j c (got m j c) ∗ semVal (rcvCell j c) 0)

/-! ## The landing -/

omit [FloatOps F] in
/-- A slot copied into a slot reads as the source slot. -/
theorem landed_read (j : Fin 12) (fd : (rM : Memref sig .tc .vmem S12x256x256 .bf16).view.ty.Contents (Elt F))
    (fs : (sM : Memref sig .tc .vmem S12x256x256 .bf16).view.ty.Contents (Elt F)) :
    rM.view.readAt (Elt F) (slotR j).toLoadRect ((slotM rM j).view.write (Elt F) fd ((slotM sM j).view.read (Elt F) fs) Finset.univ)
      = sM.view.readAt (Elt F) (slotR j).toLoadRect fs := by
  refine (congrArg ((rM.view.slice (slotR j)).read (Elt F))
    (View.write_reshape_univ (v := rM.view.slice (slotR j)) _ fd ((slotM sM j).view.read (Elt F) fs))).trans ?_
  rw [View.read_write_univ]
  funext x
  show (sM.view.slice (slotR j)).read (Elt F) fs (Shape.reshapeEquiv _ ((Shape.reshapeEquiv _).symm x)) = _
  rw [Equiv.apply_symm_apply]
  rfl

omit [FloatOps F] in
theorem slot_set (M : Memref sig .tc .vmem S12x256x256 .bf16) (j : Fin 12) : (slotM M j).view.set = (M.access (slotR j)).set :=
  View.set_reshape _ _

/-! ## The transfers -/

theorem owed_cons (c : Dev nD) (j : Fin 12) (l : List (Fin 12)) : owed c (j :: l) = owed c l + tallyAt (rcvCell j (tgt j c)) () N := rfl

/-- SEND message `j`: the slot it fills must hold the message. -/
theorem step_send (c : Dev nD) (j : Fin 12) (l : List (Fin 12)) {P : Vec F S1x256x256 .bf16} (hP : P = msg m j c)
    {S R : Memref sig .tc .vmem S256x256 .bf16} (hS : S = slotM sM j) (hR : R = slotM rM j)
    {sS sR : DmaSem sig} (hsS : sS = sndS j) (hsR : sR = rcvS j) {n : Dev nD} (hn : n = tgt j c)
    {hsc : (R : Memref sig (Dev.tc n : Thread nD τ).2.kind .vmem S256x256 .bf16).view.ref.isScScratch = false}
    {hsrc : S.view.WordExact} {hdst : R.view.WordExact}
    {hsem : DmaTarget.Typed .vmem (.dma sR) (.remote (Dev.tc n : Thread nD τ) (R : Memref sig (Dev.tc n : Thread nD τ).2.kind .vmem S256x256 .bf16) (.dma sS) hsc)}
    {α : Type} {Q : α → sProp 𝕄} {k : PUnit → Prog (TpuEff nD τ sig (Elt F) Λ₀ .tc) α} :
    iprop(records m K ∗ slotPts sM j c P ∗ go j c ∗ owing c (owed c (j :: l)))
      ⊢ iprop(((sent j c ∗ owing c (owed c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) R (.dma sS) hsc) (.dma sR) hsrc hdst hsem) k) Q) := by
  subst hP hS hR hsS hsR hn
  unfold slotPts go slotAny toSend sent owing
  iintro ⟨#Hrec, ⟨%fs, %hfs, HS⟩, ⟨⟨%fd, HR⟩, HaS, HtS, HtR⟩, ⟨%W, HO⟩⟩ Hk
  iapply (Rounds.wp_send_pointsTo 𝒱₀ ER (rsRd m) (c : Thread nD τ) none (c' := (tgt j c : Thread nD τ)) (src := slotM sM j) (dst := slotM rM j) (sS := .dma (sndS j)) (sem := .dma (rcvS j))
      (κ₁ := K (c, .inr (.inl j))) (κ₂ := K (tgt j c, .inr (.inr j)))
      (r₁ := 0) (r₂ := 0) (d₁ := false) (d₂ := false) (fs := fs) (fd := fd) (q := fullShare)
      (by rw [duties_snd]; exact Finset.mem_singleton_self _) (by rw [duties_rcv]; exact Finset.mem_singleton_self _)
      () () N (credit_r j) (amount_snd m c j false) (amount_rcv m (tgt j c) j false) (owed c l) (owed_cons c j l) (W := W)
      (by rw [payload_snd, slot_set]; unfold slotAny; iintro H; iexists fs; iexact H)
      (by
        rw [payload_rcv, slot_set]; unfold slotPts got; rw [src_tgt]
        iintro H
        iexists ((slotM rM j).view.write (Elt F) fd ((slotM sM j).view.read (Elt F) fs) Finset.univ)
        isplitr; · ipureintro; exact (landed_read j fd fs).trans hfs
        iexact H))
    $$ [HS HR HO HtS HtR]
  · isplitr; · iapply (inv_snd m K j c); iexact Hrec
    isplitr; · iapply (inv_rcv m K j (tgt j c)); iexact Hrec
    isplitl [HS]; · rw [slot_set]; iexact HS
    isplitl [HR]; · rw [slot_set]; iexact HR
    isplitl [HO]; · iexact HO
    isplitl [HtS]; · iexact HtS
    isplitr; · iapply (reached_snd m K j c); iexact Hrec
    isplitl [HtR]; · iexact HtR
    iapply (reached_rcv m K j (tgt j c)); iexact Hrec
  iintro ⟨Hc, HO⟩
  iapply Hk
  isplitl [HaS Hc]
  · isplitl [HaS] <;> iassumption
  iexists W; iexact HO

/-- WAIT for message `j` of the neighbour: its receive slot holds the message, its semaphore is back at zero. -/
theorem step_recv (c : Dev nD) (j : Fin 12) (l : List (Fin 12)) (hl : ∀ i ∈ l, lvR j.val < lvR i.val)
    {s : DmaSem sig} (hs : s = rcvS j) {S R : Memref sig .tc .vmem S256x256 .bf16}
    {hsrc : S.view.WordExact} {hdst : R.view.WordExact}
    {α : Type} {Q : α → sProp 𝕄} {k : PUnit → Prog (TpuEff nD τ sig (Elt F) Λ₀ .tc) α} :
    iprop(records m K ∗ levAts L lv ∗ toRecv j c ∗ owing c (owed c l))
      ⊢ iprop(((recvDone m j c ∗ owing c (owed c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s S R hsrc hdst) k) Q) := by
  subst hs
  have hR : R.view.dmaCredit = N := rfl
  unfold toRecv owing recvDone
  iintro ⟨#Hrec, #Hlev, ⟨Ha, Hc⟩, ⟨%W, HO⟩⟩ Hk
  iapply (Rounds.wp_wait_rest_token 𝒱₀ ER (rsRd m) (c : Thread nD τ) none (κ := K (c, .inr (.inr j)))
      (wpE_waitDma2_eq 𝒱₀ (c : Thread nD τ) none Set.univ) (Set.mem_univ _) () (O := owed c l) (W := W) (R := 0) (m := 0) (T := ∅)
      (by rw [Nat.zero_add, expect_rcv, hR])) $$ [Ha Hc HO]
  · isplitr; · iapply (inv_rcv m K j c); iexact Hrec
    isplitl [Hc]; · (try rw [hR]); iexact Hc
    isplitl [HO]; · iexact HO
    isplitr; · iapply (mayWait_rcv j c l hl); iexact Hlev
    iexact Ha
  iintro ⟨HO, Ha, -, Hpay⟩
  ihave Hp := (Entails.of_eq (rest_rcv m c j)) $$ Hpay
  imod (Rounds.cell_close ER (rsRd m) (Set.mem_univ (K (c, .inr (.inr j)))) (fun h => h) (R := 0 + 1) (duties_later m (rcvCell j c))) $$ [Ha] with Hz
  · isplitr; · iapply (inv_rcv m K j c); iexact Hrec
    iexact Ha
  iapply Hk
  isplitl [Hp Hz]
  · isplitl [Hp] <;> iassumption
  iexists _; iexact HO

/-- WAIT until message `j` has left: its send slot and its semaphore are back. -/
theorem step_sent (c : Dev nD) (j : Fin 12)
    {s : DmaSem sig} (hs : s = sndS j) {S R : Memref sig .tc .vmem S256x256 .bf16}
    {hsrc : S.view.WordExact} {hdst : R.view.WordExact}
    {α : Type} {Q : α → sProp 𝕄} {k : PUnit → Prog (TpuEff nD τ sig (Elt F) Λ₀ .tc) α} :
    iprop(records m K ∗ sent j c ∗ owing c (owed c []))
      ⊢ iprop(((sentDone j c ∗ owing c (owed c []))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s S R hsrc hdst) k) Q) := by
  subst hs
  have hR : R.view.dmaCredit = N := rfl
  unfold sent owing sentDone
  iintro ⟨#Hrec, ⟨Ha, Hc⟩, ⟨%W, HO⟩⟩ Hk
  iapply (Rounds.wp_wait_rest_token 𝒱₀ ER (rsRd m) (c : Thread nD τ) none (κ := K (c, .inr (.inl j)))
      (wpE_waitDma2_eq 𝒱₀ (c : Thread nD τ) none Set.univ) (Set.mem_univ _) () (O := owed c []) (W := W) (R := 0) (m := 0) (T := ∅)
      (by rw [Nat.zero_add, expect_snd, hR])) $$ [Ha Hc HO]
  · isplitr; · iapply (inv_snd m K j c); iexact Hrec
    isplitl [Hc]; · (try rw [hR]); iexact Hc
    isplitl [HO]; · iexact HO
    isplitr; · rw [show owed c [] = 0 from rfl, MayWait_zero]; iempintro
    iexact Ha
  iintro ⟨HO, Ha, -, Hpay⟩
  ihave Hp := (Entails.of_eq (rest_snd m c j)) $$ Hpay
  imod (Rounds.cell_close ER (rsRd m) (Set.mem_univ (K (c, .inr (.inl j)))) (fun h => h) (R := 0 + 1) (duties_later m (sndCell j c))) $$ [Ha] with Hz
  · isplitr; · iapply (inv_snd m K j c); iexact Hrec
    iexact Ha
  iapply Hk
  isplitl [Hp Hz]
  · isplitl [Hp] <;> iassumption
  iexists _; iexact HO

/-! ## The barrier -/

/-- SIGNAL the neighbour below or above: this device's receive slots of one side go with it. -/
theorem step_signal (c : Dev nD) (d : Bool) (O : CellTallies nD τ sig Unit) {n b : Dev nD} (hb : b = if d then dn c else up c) (hn : n = b)
    {kk : ℕ} (hk : kk = 1) {α : Type} {Q : α → sProp 𝕄} {k : PUnit → Prog (TpuEff nD τ sig (Elt F) Λ₀ .tc) α} :
    iprop(records m K ∗ dutyTok ER (barCell b) 0 d ∗ (bigSep (side d) fun j => slotAny (F := F) rM j c) ∗ owing c (O + tallyAt (barCell b) () 1))
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS kk) k) Q) := by
  subst hn hk
  unfold owing
  iintro ⟨#Hrec, Ht, Hs, ⟨%W, HO⟩⟩ Hk
  iapply (Rounds.wp_signal 𝒱₀ ER (rsRd m) (c : Thread nD τ) none (dst := (n : Thread nD τ)) (κ := K (n, .inl ()))
      (d := d) (by rw [duties_bar]; exact Finset.mem_univ _) (amount_bar m n d) () O rfl (W := W)) $$ [HO Ht Hs]
  · isplitr; · iapply (inv_bar m K n); iexact Hrec
    isplitl [HO]; · iexact HO
    isplitl [Ht]; · iexact Ht
    isplitl [Hs]
    · rw [payload_bar]; unfold barPay
      rw [bigSep_congr (s := side d) (Φ := fun j => slotAny (F := F) rM j (tgt j n)) (Ψ := fun j => slotAny (F := F) rM j c) (fun j hj => by
        have h := (Finset.mem_filter.mp hj).2
        have ht : tgt j n = c := by
          unfold tgt
          by_cases h6 : j.val < 6
          · rw [if_pos h6] at h ⊢; subst h; rw [hb]; exact dn_up c
          · rw [if_neg h6] at h ⊢; subst h; rw [hb]; exact up_dn c
        show slotAny (F := F) rM j (tgt j n) = slotAny rM j c
        rw [ht])]
      iexact Hs
    · iapply (reached_bar m K n); iexact Hrec
  iintro HO
  iapply Hk
  iexists W; iexact HO

/-- WAIT for both neighbours: the receive slots this device writes are its own. -/
theorem step_barrier (c : Dev nD) (l : List (Fin 12)) {kk : ℕ} (hk : kk = 2)
    {α : Type} {Q : α → sProp 𝕄} {k : PUnit → Prog (TpuEff nD τ sig (Elt F) Λ₀ .tc) α} :
    iprop(records m K ∗ levAts L lv ∗ atPos ER (barCell c) 0 ∅ 0 ∗ cred (tallyAt (barCell c) () 2) ∗ owing c (owed c l))
      ⊢ iprop((((barPay (F := F) c false ∗ barPay (F := F) c true) ∗ semVal (barCell c) 0 ∗ owing c (owed c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS kk) k) Q) := by
  subst hk
  unfold owing
  iintro ⟨#Hrec, #Hlev, Ha, Hc, ⟨%W, HO⟩⟩ Hk
  iapply (Rounds.wp_wait_rest_token 𝒱₀ ER (rsRd m) (c : Thread nD τ) none (κ := K (c, .inl ()))
      (wpE_semWait_eq 𝒱₀ (c : Thread nD τ) none Set.univ) (Set.mem_univ _) () (O := owed c l) (W := W) (R := 0) (m := 0) (T := ∅)
      (by rw [expect_bar])) $$ [Ha Hc HO]
  · isplitr; · iapply (inv_bar m K c); iexact Hrec
    isplitl [Hc]; · iexact Hc
    isplitl [HO]; · iexact HO
    isplitr; · iapply (mayWait_bar c l); iexact Hlev
    iexact Ha
  iintro ⟨HO, Ha, -, Hpay⟩
  ihave Hp := (Entails.of_eq (rest_bar m c)) $$ Hpay
  imod (Rounds.cell_close ER (rsRd m) (Set.mem_univ (K (c, .inl ()))) (fun h => h) (R := 0 + 1) (duties_later m (barCell c))) $$ [Ha] with Hz
  · isplitr; · iapply (inv_bar m K c); iexact Hrec
    iexact Ha
  iapply Hk
  isplitl [Hp]; · iexact Hp
  isplitl [Hz]; · iexact Hz
  iexists _; iexact HO

/-! ## The slots' loads and stores -/

/-- LOAD a slot: what it holds. -/
theorem step_load (c : Dev nD) (M : Memref sig .tc .vmem S12x256x256 .bf16) (j : Fin 12) (P : Vec F S1x256x256 .bf16)
    {off : Fin 3 → ℕ} (ho : off = ![j.val, 0, 0]) {inb : ∀ a, off a + S1x256x256.size a ≤ S12x256x256.size a}
    {hl : M.view.LoadsAt (Rect.unit (s := S12x256x256) off S1x256x256.size inb).toLoadRect}
    {α : Type} {Q : α → sProp 𝕄} {k : Vec F S1x256x256 .bf16 → Prog (TpuEff nD τ sig (Elt F) Λ₀ .tc) α} :
    slotPts M j c P
      ⊢ iprop((slotPts M j c P -∗ wp frame (wpE (defs₀ (F := F)) 𝒱₀ (c : Thread nD τ) none) Set.univ (k P) Q)
          -∗ wp frame (wpE (defs₀ (F := F)) 𝒱₀ (c : Thread nD τ) none) Set.univ
            (.op (.load M (Rect.unit (s := S12x256x256) off S1x256x256.size inb).toLoadRect hl) k) Q) := by
  subst ho
  unfold slotPts
  iintro ⟨%f, %hf, H⟩ Hk
  iapply (wp_load 𝒱₀ (c : Thread nD τ) none Set.univ (m := M) (S := (M.access (slotR j)).set) (by exact le_of_eq (View.set_slice _ _).symm)) $$ H
  iintro H
  rw [hf]
  iapply Hk
  iexists f; isplitr; · (ipureintro; exact hf)
  iexact H

/-- LOAD a received message. -/
theorem step_read (c : Dev nD) (j : Fin 12)
    {off : Fin 3 → ℕ} (ho : off = ![j.val, 0, 0]) {inb : ∀ a, off a + S1x256x256.size a ≤ S12x256x256.size a}
    {hl : rM.view.LoadsAt (Rect.unit (s := S12x256x256) off S1x256x256.size inb).toLoadRect}
    {α : Type} {Q : α → sProp 𝕄} {k : Vec F S1x256x256 .bf16 → Prog (TpuEff nD τ sig (Elt F) Λ₀ .tc) α} :
    recvDone m j c
      ⊢ iprop((recvDone m j c -∗ wp frame (wpE (defs₀ (F := F)) 𝒱₀ (c : Thread nD τ) none) Set.univ (k (got m j c)) Q)
          -∗ wp frame (wpE (defs₀ (F := F)) 𝒱₀ (c : Thread nD τ) none) Set.univ
            (.op (.load rM (Rect.unit (s := S12x256x256) off S1x256x256.size inb).toLoadRect hl) k) Q) := by
  unfold recvDone
  iintro ⟨H, Hz⟩ Hk
  iapply (step_load c rM j (got m j c) ho) $$ H
  iintro H
  iapply Hk
  isplitl [H] <;> iassumption

/-- FILL a slot: the store, after the load whose value nothing reads. -/
theorem step_fill (c : Dev nD) (M : Memref sig .tc .vmem S12x256x256 .bf16) (j : Fin 12)
    {off : Fin 3 → ℕ} (ho : off = ![j.val, 0, 0]) {inb : ∀ a, off a + S1x256x256.size a ≤ S12x256x256.size a}
    {hl : M.view.LoadsAt (Rect.unit (s := S12x256x256) off S1x256x256.size inb).toLoadRect} {w : Vec F S1x256x256 .bf16}
    {hst : (M.access (Rect.unit (s := S12x256x256) off S1x256x256.size inb)).Stores Finset.univ} {hi : _}
    {α : Type} {Q : α → sProp 𝕄} {k : PUnit → Prog (TpuEff nD τ sig (Elt F) Λ₀ .tc) α} :
    slotAny M j c
      ⊢ iprop((slotPts M j c w -∗ wp frame (wpE (defs₀ (F := F)) 𝒱₀ (c : Thread nD τ) none) Set.univ (k ⟨⟩) Q)
          -∗ wp frame (wpE (defs₀ (F := F)) 𝒱₀ (c : Thread nD τ) none) Set.univ
            (.op (.load M (Rect.unit (s := S12x256x256) off S1x256x256.size inb).toLoadRect hl) fun _ =>
              .op (.store M (Rect.unit (s := S12x256x256) off S1x256x256.size inb) w Finset.univ hst hi) k) Q) := by
  subst ho
  unfold slotPts slotAny
  iintro ⟨%f, H⟩ Hk
  iapply (wp_load 𝒱₀ (c : Thread nD τ) none Set.univ (m := M) (S := (M.access (slotR j)).set) (by exact le_of_eq (View.set_slice _ _).symm)) $$ H
  iintro H
  iapply (wp_store 𝒱₀ (c : Thread nD τ) none Set.univ (m := M) (r := slotR j) (Mk := Finset.univ) (S := (M.access (slotR j)).set) (by rw [View.setOn_univ])) $$ H
  iintro H
  iapply Hk
  iexists ((M.access (slotR j)).write (Elt F) f w Finset.univ); isplitr
  · ipureintro; exact View.read_write_univ (v := M.access (slotR j)) f w
  · iexact H

end Cert.RsGelu

end
-- ==== Proof.Parts1.lean ====
/-
# The kernel's run, first half: the barrier, the eight messages of a device's own partial products

Each theorem runs one printed part of the kernel on device `c`, from what the part uses to what it leaves.
-/
module

public import proofs.«01_k».proof.Proof.Steps

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-! ## The staged blocks -/

/-- Device `c` holds its staged block of `x`; of `w_mat`. -/
def xPts (c : Dev nD) : sProp 𝕄 := iprop(((c : Thread nD τ).loc cc0_stg0_0) ↦{fullShare} xstg m c)
def wPts (c : Dev nD) : sProp 𝕄 := iprop(((c : Thread nD τ).loc cc0_stg1_0) ↦{fullShare} wstg m c)

/-- LOAD a part of the block of `x`; -/
theorem step_x (c : Dev nD) {r : LoadRect S1024x256} {hl : xM.view.LoadsAt r} {v : r.shape.Idx → Elt F .bf16}
    (hv : xM.view.readAt (Elt F) r (xstg m c) = v)
    {α : Type} {Q : α → sProp 𝕄} {k : (r.shape.Idx → Elt F .bf16) → Prog (TpuEff nD τ sig (Elt F) Λ₀ .tc) α} :
    xPts m c ⊢ iprop((xPts m c -∗ wp frame (wpE (defs₀ (F := F)) 𝒱₀ (c : Thread nD τ) none) Set.univ (k v) Q) -∗ wp frame (wpE (defs₀ (F := F)) 𝒱₀ (c : Thread nD τ) none) Set.univ (.op (.load xM r hl) k) Q) := by
  subst hv
  unfold xPts
  exact wp_load 𝒱₀ (c : Thread nD τ) none Set.univ (m := xM) (Finset.subset_univ _)
/-- of the block of `w_mat`. -/
theorem step_w (c : Dev nD) {r : LoadRect S256x1024} {hl : wM.view.LoadsAt r} {v : r.shape.Idx → Elt F .bf16}
    (hv : wM.view.readAt (Elt F) r (wstg m c) = v)
    {α : Type} {Q : α → sProp 𝕄} {k : (r.shape.Idx → Elt F .bf16) → Prog (TpuEff nD τ sig (Elt F) Λ₀ .tc) α} :
    wPts m c ⊢ iprop((wPts m c -∗ wp frame (wpE (defs₀ (F := F)) 𝒱₀ (c : Thread nD τ) none) Set.univ (k v) Q) -∗ wp frame (wpE (defs₀ (F := F)) 𝒱₀ (c : Thread nD τ) none) Set.univ (.op (.load wM r hl) k) Q) := by
  subst hv
  unfold wPts
  exact wp_load 𝒱₀ (c : Thread nD τ) none Set.univ (m := wM) (Finset.subset_univ _)

/-! ## The words the parts pass on -/

/-- The device's number, and its neighbours' below and above, as the kernel computes them. -/
abbrev wSelf (c : Dev nD) : BitVec 32 := Scalar.remsi (Scalar.divsi (Dev.word c) 1#32) 4#32
abbrev wDn (c : Dev nD) : BitVec 32 := Scalar.remsi (Scalar.subi (Scalar.addi (wSelf c) 4#32) 1#32) 4#32
abbrev wUp (c : Dev nD) : BitVec 32 := Scalar.remsi (Scalar.addi (wSelf c) 1#32) 4#32

/-! ## The parts -/

/-- The barrier, and message 0 written. -/
theorem run_part1 (c : Dev nD) (Kt : (Σ' (d0 : Dev nD) (v2 : BitVec 32) (v5 : BitVec 32) (v7 : BitVec 32), FVec F S256x512 .f32) → sProp 𝕄) :
    iprop((records m K ∗ levAts L lv ∗ dutyTok ER (barCell (dn c)) 0 true ∗ dutyTok ER (barCell (up c)) 0 false
          ∗ (bigSep (side true) fun j => slotAny (F := F) rM j c) ∗ (bigSep (side false) fun j => slotAny (F := F) rM j c)
          ∗ atPos ER (barCell c) 0 ∅ 0 ∗ cred (tallyAt (barCell c) () 2) ∗ owing c (O₀ c)
          ∗ xPts m c ∗ wPts m c ∗ slotAny sM 0 c)
        ∗ (((barPay (F := F) c false ∗ barPay (F := F) c true) ∗ semVal (barCell c) 0 ∗ owing c (owed c order)
            ∗ xPts m c ∗ wPts m c ∗ slotPts sM 0 c (msg m 0 c))
          -∗ Kt ⟨c, wSelf c, wDn c, wUp c, k0_pay1 (x2 m c) (wL m c)⟩))
      ⊢ wp frame (wpE (defs₀ (F := F)) 𝒱₀ (c : Thread nD τ) none) Set.univ (k0_part1 xM (Memref.isWhole_whole _) wM (Memref.isWhole_whole _) oM (Memref.isWhole_whole _) sM (Memref.isWhole_whole _) rM (Memref.isWhole_whole _) cc0_scratch2 cc0_scratch3) Kt := by
  rw [k0_part1_eq_skeleton]; unfold k0_part1_skel
  simp only [semSignalWord, semWaitWord, Prog.lift, Prog.bind_op, Prog.bind_ret, Prog.pure_eq_ret, wp_deviceId]
  iintro ⟨⟨#Hrec, #Hlev, HtD, HtU, HrT, HrF, HaB, HcB, HO, Hx, Hw, HS⟩, Hk⟩
  unfold O₀
  iapply (step_signal m K c true (owed c order + tallyAt (barCell (up c)) () 1) (b := dn c) rfl (dev1_eq c) rfl) $$ [HtD HrT HO]
  · isplitr; · iexact Hrec
    isplitl [HtD]; · iexact HtD
    isplitl [HrT] <;> iassumption
  iintro HO
  iapply (step_signal m K c false (owed c order) (b := up c) rfl (dev2_eq c) rfl) $$ [HtU HrF HO]
  · isplitr; · iexact Hrec
    isplitl [HtU]; · iexact HtU
    isplitl [HrF] <;> iassumption
  iintro HO
  iapply (step_barrier m K c order rfl) $$ [HaB HcB HO]
  · isplitr; · iexact Hrec
    isplitr; · iexact Hlev
    isplitl [HaB]; · iexact HaB
    isplitl [HcB] <;> iassumption
  iintro ⟨Hb, Hz, HO⟩
  iapply (step_x m c (v := x2 m c) rfl) $$ Hx; iintro Hx
  iapply (step_w m c (v := wL m c) rfl) $$ Hw; iintro Hw
  iapply (step_fill c sM 0 rfl) $$ HS; iintro HS
  rw [wp_ret]; imodintro
  iapply Hk
  isplitl [Hb]; · iexact Hb
  isplitl [Hz]; · iexact Hz
  isplitl [HO]; · iexact HO
  isplitl [Hx]; · iexact Hx
  isplitl [Hw]; · iexact Hw
  iexact HS

/-- Messages 0 and 1 sent. -/
theorem run_part2 (c : Dev nD) (v2 v5 : BitVec 32) (Kt : FVec F S256x256 .bf16 → sProp 𝕄) :
    iprop((records m K ∗ owing c (owed c order) ∗ slotPts sM 0 c (msg m 0 c) ∗ go 0 c ∗ slotAny sM 1 c ∗ go 1 c ∗ xPts m c)
        ∗ ((sent 0 c ∗ sent 1 c ∗ owing c (owed c [6, 7, 2, 3, 8, 9, 4, 10, 5, 11]) ∗ xPts m c) -∗ Kt (k0_pay4 (x2 m c))))
      ⊢ wp frame (wpE (defs₀ (F := F)) 𝒱₀ (c : Thread nD τ) none) Set.univ (k0_part2 xM (Memref.isWhole_whole _) wM (Memref.isWhole_whole _) oM (Memref.isWhole_whole _) sM (Memref.isWhole_whole _) rM (Memref.isWhole_whole _) cc0_scratch2 cc0_scratch3 c v2 v5 (k0_pay1 (x2 m c) (wL m c))) Kt := by
  rw [k0_part2_eq_skeleton]; unfold k0_part2_skel
  simp only [semSignalWord, semWaitWord, Prog.lift, Prog.bind_op, Prog.bind_ret, Prog.pure_eq_ret, wp_deviceId]
  iintro ⟨⟨#Hrec, HO, HS0, Hg0, HS1, Hg1, Hx⟩, Hk⟩
  iapply (step_send m K c 0 [1, 6, 7, 2, 3, 8, 9, 4, 10, 5, 11] rfl rfl rfl rfl rfl (dev3_eq c)) $$ [HS0 Hg0 HO]
  · iframe HS0 Hg0 HO; iexact Hrec
  iintro ⟨Hs0, HO⟩
  iapply (step_fill c sM 1 rfl) $$ HS1; iintro HS1
  iapply (step_send m K c 1 [6, 7, 2, 3, 8, 9, 4, 10, 5, 11] rfl rfl rfl rfl rfl (dev4_eq c)) $$ [HS1 Hg1 HO]
  · iframe HS1 Hg1 HO; iexact Hrec
  iintro ⟨Hs1, HO⟩
  iapply (step_x m c (v := x2 m c) rfl) $$ Hx; iintro Hx
  rw [wp_ret]; imodintro
  iapply Hk
  iframe Hs0 Hs1 HO Hx

/-- Message 6 sent, message 7 written. -/
theorem run_part3 (c : Dev nD) (v7 : BitVec 32) (Kt : PUnit → sProp 𝕄) :
    iprop((records m K ∗ owing c (owed c [6, 7, 2, 3, 8, 9, 4, 10, 5, 11]) ∗ wPts m c ∗ slotAny sM 6 c ∗ go 6 c ∗ slotAny sM 7 c)
        ∗ ((owing c (owed c [7, 2, 3, 8, 9, 4, 10, 5, 11]) ∗ wPts m c ∗ slotPts sM 7 c (msg m 7 c) ∗ sent 6 c) -∗ Kt ⟨⟩))
      ⊢ wp frame (wpE (defs₀ (F := F)) 𝒱₀ (c : Thread nD τ) none) Set.univ (k0_part3 xM (Memref.isWhole_whole _) wM (Memref.isWhole_whole _) oM (Memref.isWhole_whole _) sM (Memref.isWhole_whole _) rM (Memref.isWhole_whole _) cc0_scratch2 cc0_scratch3 c v7 (k0_pay4 (x2 m c))) Kt := by
  rw [k0_part3_eq_skeleton]; unfold k0_part3_skel
  simp only [semSignalWord, semWaitWord, Prog.lift, Prog.bind_op, Prog.bind_ret, Prog.pure_eq_ret, wp_deviceId]
  iintro ⟨⟨#Hrec, HO, Hw, HS6, Hg6, HS7⟩, Hk⟩
  iapply (step_w m c (v := wR m c) rfl) $$ Hw; iintro Hw
  iapply (step_fill c sM 6 rfl) $$ HS6; iintro HS6
  iapply (step_send m K c 6 [7, 2, 3, 8, 9, 4, 10, 5, 11] rfl rfl rfl rfl rfl (dev5_eq c)) $$ [HS6 Hg6 HO]
  · iframe HS6 Hg6 HO; iexact Hrec
  iintro ⟨Hs6, HO⟩
  iapply (step_fill c sM 7 rfl) $$ HS7; iintro HS7
  rw [wp_ret]; imodintro
  iapply Hk
  iframe HO Hw HS7 Hs6

/-- Messages 7 and 2 sent, message 3 written. -/
theorem run_part4 (c : Dev nD) (v2 v5 : BitVec 32) (Kt : FVec F S256x1024 .f32 → sProp 𝕄) :
    iprop((records m K ∗ owing c (owed c [7, 2, 3, 8, 9, 4, 10, 5, 11]) ∗ slotPts sM 7 c (msg m 7 c) ∗ go 7 c ∗ xPts m c ∗ wPts m c ∗ slotAny sM 2 c ∗ go 2 c ∗ slotAny sM 3 c)
        ∗ ((owing c (owed c [3, 8, 9, 4, 10, 5, 11]) ∗ xPts m c ∗ wPts m c ∗ slotPts sM 3 c (msg m 3 c) ∗ sent 7 c ∗ sent 2 c) -∗ Kt (p3 m c)))
      ⊢ wp frame (wpE (defs₀ (F := F)) 𝒱₀ (c : Thread nD τ) none) Set.univ (k0_part4 xM (Memref.isWhole_whole _) wM (Memref.isWhole_whole _) oM (Memref.isWhole_whole _) sM (Memref.isWhole_whole _) rM (Memref.isWhole_whole _) cc0_scratch2 cc0_scratch3 c v2 v5) Kt := by
  rw [k0_part4_eq_skeleton]; unfold k0_part4_skel
  simp only [semSignalWord, semWaitWord, Prog.lift, Prog.bind_op, Prog.bind_ret, Prog.pure_eq_ret, wp_deviceId]
  iintro ⟨⟨#Hrec, HO, HS7, Hg7, Hx, Hw, HS2, Hg2, HS3⟩, Hk⟩
  iapply (step_send m K c 7 [2, 3, 8, 9, 4, 10, 5, 11] rfl rfl rfl rfl rfl (dev6_eq c)) $$ [HS7 Hg7 HO]
  · iframe HS7 Hg7 HO; iexact Hrec
  iintro ⟨Hs7, HO⟩
  iapply (step_x m c (v := x3 m c) rfl) $$ Hx; iintro Hx
  iapply (step_w m c (v := wA m c) rfl) $$ Hw; iintro Hw
  iapply (step_fill c sM 2 rfl) $$ HS2; iintro HS2
  iapply (step_send m K c 2 [3, 8, 9, 4, 10, 5, 11] rfl rfl rfl rfl rfl (dev7_eq c)) $$ [HS2 Hg2 HO]
  · iframe HS2 Hg2 HO; iexact Hrec
  iintro ⟨Hs2, HO⟩
  iapply (step_fill c sM 3 rfl) $$ HS3; iintro HS3
  rw [wp_ret, show k0_pay8 (x3 m c) (wA m c) = p3 m c from rfl]; imodintro
  iapply Hk
  iframe HO Hx Hw HS3 Hs7 Hs2

/-- Message 3 sent, message 8 written. -/
theorem run_part5 (c : Dev nD) (v2 v5 v7 : BitVec 32) (Kt : FVec F S256x1024 .f32 → sProp 𝕄) :
    iprop((records m K ∗ owing c (owed c [3, 8, 9, 4, 10, 5, 11]) ∗ slotPts sM 3 c (msg m 3 c) ∗ go 3 c ∗ xPts m c ∗ wPts m c ∗ slotAny sM 8 c)
        ∗ ((owing c (owed c [8, 9, 4, 10, 5, 11]) ∗ xPts m c ∗ wPts m c ∗ slotPts sM 8 c (msg m 8 c) ∗ sent 3 c) -∗ Kt (p1 m c)))
      ⊢ wp frame (wpE (defs₀ (F := F)) 𝒱₀ (c : Thread nD τ) none) Set.univ (k0_part5 xM (Memref.isWhole_whole _) wM (Memref.isWhole_whole _) oM (Memref.isWhole_whole _) sM (Memref.isWhole_whole _) rM (Memref.isWhole_whole _) cc0_scratch2 cc0_scratch3 c v2 v5 v7) Kt := by
  rw [k0_part5_eq_skeleton]; unfold k0_part5_skel
  simp only [semSignalWord, semWaitWord, Prog.lift, Prog.bind_op, Prog.bind_ret, Prog.pure_eq_ret, wp_deviceId]
  iintro ⟨⟨#Hrec, HO, HS3, Hg3, Hx, Hw, HS8⟩, Hk⟩
  iapply (step_send m K c 3 [8, 9, 4, 10, 5, 11] rfl rfl rfl rfl rfl (dev8_eq c)) $$ [HS3 Hg3 HO]
  · iframe HS3 Hg3 HO; iexact Hrec
  iintro ⟨Hs3, HO⟩
  iapply (step_x m c (v := x1 m c) rfl) $$ Hx; iintro Hx
  iapply (step_w m c (v := wA m c) rfl) $$ Hw; iintro Hw
  iapply (step_fill c sM 8 rfl) $$ HS8; iintro HS8
  rw [wp_ret, show k0_pay11 (x1 m c) (wA m c) = p1 m c from rfl]; imodintro
  iapply Hk
  iframe HO Hx Hw HS8 Hs3

/-- Messages 8 and 9 sent; the device's own share of its rows. -/
theorem run_part6 (c : Dev nD) (v2 v5 v7 : BitVec 32) (Kt : FVec F S256x1024 .f32 → sProp 𝕄) :
    iprop((records m K ∗ owing c (owed c [8, 9, 4, 10, 5, 11]) ∗ slotPts sM 8 c (msg m 8 c) ∗ go 8 c ∗ slotAny sM 9 c ∗ go 9 c ∗ xPts m c ∗ wPts m c)
        ∗ ((owing c (owed c [4, 10, 5, 11]) ∗ xPts m c ∗ wPts m c ∗ sent 8 c ∗ sent 9 c) -∗ Kt (p0 m c)))
      ⊢ wp frame (wpE (defs₀ (F := F)) 𝒱₀ (c : Thread nD τ) none) Set.univ (k0_part6 xM (Memref.isWhole_whole _) wM (Memref.isWhole_whole _) oM (Memref.isWhole_whole _) sM (Memref.isWhole_whole _) rM (Memref.isWhole_whole _) cc0_scratch2 cc0_scratch3 c v2 v5 v7 (p1 m c)) Kt := by
  rw [k0_part6_eq_skeleton]; unfold k0_part6_skel
  simp only [semSignalWord, semWaitWord, Prog.lift, Prog.bind_op, Prog.bind_ret, Prog.pure_eq_ret, wp_deviceId]
  iintro ⟨⟨#Hrec, HO, HS8, Hg8, HS9, Hg9, Hx, Hw⟩, Hk⟩
  iapply (step_send m K c 8 [9, 4, 10, 5, 11] rfl rfl rfl rfl rfl (dev9_eq c)) $$ [HS8 Hg8 HO]
  · iframe HS8 Hg8 HO; iexact Hrec
  iintro ⟨Hs8, HO⟩
  iapply (step_fill c sM 9 rfl) $$ HS9; iintro HS9
  iapply (step_send m K c 9 [4, 10, 5, 11] rfl rfl rfl rfl rfl (dev10_eq c)) $$ [HS9 Hg9 HO]
  · iframe HS9 Hg9 HO; iexact Hrec
  iintro ⟨Hs9, HO⟩
  iapply (step_x m c (v := x0 m c) rfl) $$ Hx; iintro Hx
  iapply (step_w m c (v := wA m c) rfl) $$ Hw; iintro Hw
  rw [wp_ret, show k0_pay14 (x0 m c) (wA m c) = p0 m c from rfl]; imodintro
  iapply Hk
  iframe HO Hx Hw Hs8 Hs9

end Cert.RsGelu

end
-- ==== Proof.Parts2.lean ====
/-
# The kernel's run, second half: what comes back, the four column blocks of the result, the last waits
-/
module

public import proofs.«01_k».proof.Proof.Parts1

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-! ## What is stored -/

/-- Device `c`'s own share of column block `k` of its rows, with what arrived from the one neighbour added;
for block 0 the messages 8 and 4 arrive, for block 1 the messages 9 and 5, for block 2 the messages 2 and 10,
for block 3 the messages 3 and 11. -/
def half (c : Dev nD) : Fin 4 → FVec F S256x256 .f32
  | 0 => k0_pay22 (k0_pay20 (p0 m c)) (k0_pay21 (got m 8 c))
  | 1 => k0_pay23 (p0 m c) (got m 9 c)
  | 2 => k0_pay24 (p0 m c) (got m 2 c)
  | 3 => k0_pay25 (p0 m c) (got m 3 c)
/-- Column block `k` of device `c`'s result: the other neighbour's message added too, and the activation. -/
def outBlk (c : Dev nD) : Fin 4 → FVec F S256x256 .f32
  | 0 => k0_pay29 (k0_pay27 (half m c 0) (got m 4 c)) (k0_pay28 (half m c 0) (got m 4 c))
  | 1 => k0_pay31 (half m c 1) (got m 5 c)
  | 2 => k0_pay30 (half m c 2) (got m 10 c)
  | 3 => k0_pay32 (half m c 3) (got m 11 c)

theorem col_inb (k : Fin 4) : ∀ a, (![0, 256 * k.val] : Fin 2 → ℕ) a + S256x256.size a ≤ S256x1024.size a := by
  intro a; fin_cases k <;> fin_cases a <;> decide
/-- Column block `k` of a result's array. -/
abbrev colR (k : Fin 4) : Rect S256x1024 := Rect.unit (s := S256x1024) ![0, 256 * k.val] S256x256.size (col_inb k)
/-- An array with `w` written at column block `k`. -/
def put (k : Fin 4) (w : Vec F S256x256 .f32) {c : Dev nD} (f : Buf (Elt F) ((c : Thread nD τ).loc cc0_stg2_0)) :
    Buf (Elt F) ((c : Thread nD τ).loc cc0_stg2_0) :=
  (oM.access (colR k)).write (Elt F) f w Finset.univ
/-- Device `c` holds its staged block of the result. -/
def outPts (c : Dev nD) (f : Buf (Elt F) ((c : Thread nD τ).loc cc0_stg2_0)) : sProp 𝕄 :=
  iprop(((c : Thread nD τ).loc cc0_stg2_0) ↦{fullShare} f)

/-- STORE a column block (what the load before it read is used nowhere). -/
theorem step_put (c : Dev nD) (k : Fin 4) (w : Vec F S256x256 .f32)
    {off : Fin 2 → ℕ} (ho : off = ![0, 256 * k.val]) {inb : ∀ a, off a + S256x256.size a ≤ S256x1024.size a}
    {f : Buf (Elt F) ((c : Thread nD τ).loc cc0_stg2_0)}
    {hl : oM.view.LoadsAt (Rect.unit (s := S256x1024) off S256x256.size inb).toLoadRect}
    {hst : (oM.access (Rect.unit (s := S256x1024) off S256x256.size inb)).Stores Finset.univ} {hi : _}
    {α : Type} {Q : α → sProp 𝕄} {k' : PUnit → Prog (TpuEff nD τ sig (Elt F) Λ₀ .tc) α} :
    outPts c f
      ⊢ iprop((outPts c (put k w f) -∗ wp frame (wpE (defs₀ (F := F)) 𝒱₀ (c : Thread nD τ) none) Set.univ (k' ⟨⟩) Q)
          -∗ wp frame (wpE (defs₀ (F := F)) 𝒱₀ (c : Thread nD τ) none) Set.univ (.op (.load oM (Rect.unit (s := S256x1024) off S256x256.size inb).toLoadRect hl) fun _ =>
              .op (.store oM (Rect.unit (s := S256x1024) off S256x256.size inb) w Finset.univ hst hi) k') Q) := by
  subst ho
  unfold outPts
  iintro H Hk
  iapply (wp_load 𝒱₀ (c : Thread nD τ) none Set.univ (m := oM) (Finset.subset_univ _)) $$ H
  iintro H
  iapply (wp_store 𝒱₀ (c : Thread nD τ) none Set.univ (m := oM) (r := colR k) (Mk := Finset.univ) (Finset.subset_univ _)) $$ H
  iintro H
  iapply Hk
  iexact H

/-! ## The parts -/

/-- Message 0 received, message 4 sent. -/
theorem run_part7 (c : Dev nD) (v5 v7 : BitVec 32) (Kt : PUnit → sProp 𝕄) :
    iprop((records m K ∗ levAts L lv ∗ owing c (owed c [4, 10, 5, 11]) ∗ toRecv 0 c ∗ slotAny sM 4 c ∗ go 4 c)
        ∗ ((owing c (owed c [10, 5, 11]) ∗ recvDone m 0 c ∗ sent 4 c) -∗ Kt ⟨⟩))
      ⊢ wp frame (wpE (defs₀ (F := F)) 𝒱₀ (c : Thread nD τ) none) Set.univ (k0_part7 xM (Memref.isWhole_whole _) wM (Memref.isWhole_whole _) oM (Memref.isWhole_whole _) sM (Memref.isWhole_whole _) rM (Memref.isWhole_whole _) cc0_scratch2 cc0_scratch3 c v5 v7 (p3 m c)) Kt := by
  rw [k0_part7_eq_skeleton]; unfold k0_part7_skel
  simp only [semSignalWord, semWaitWord, Prog.lift, Prog.bind_op, Prog.bind_ret, Prog.pure_eq_ret, wp_deviceId]
  iintro ⟨⟨#Hrec, #Hlev, HO, Ht0, HS4, Hg4⟩, Hk⟩
  iapply (step_recv m K c 0 [4, 10, 5, 11] (by decide) rfl) $$ [Ht0 HO]
  · iframe Ht0 HO; isplitr <;> iassumption
  iintro ⟨Hr0, HO⟩
  iapply (step_read m c 0 rfl) $$ Hr0; iintro Hr0
  iapply (step_fill c sM 4 rfl) $$ HS4; iintro HS4
  iapply (step_send m K c 4 [10, 5, 11] rfl rfl rfl rfl rfl (dev11_eq c)) $$ [HS4 Hg4 HO]
  · iframe HS4 Hg4 HO; iexact Hrec
  iintro ⟨Hs4, HO⟩
  rw [wp_ret]; imodintro
  iapply Hk
  iframe HO Hr0 Hs4

/-- Message 6 received, message 10 sent. -/
theorem run_part8 (c : Dev nD) (v5 v7 : BitVec 32) (Kt : PUnit → sProp 𝕄) :
    iprop((records m K ∗ levAts L lv ∗ owing c (owed c [10, 5, 11]) ∗ toRecv 6 c ∗ slotAny sM 10 c ∗ go 10 c)
        ∗ ((owing c (owed c [5, 11]) ∗ recvDone m 6 c ∗ sent 10 c) -∗ Kt ⟨⟩))
      ⊢ wp frame (wpE (defs₀ (F := F)) 𝒱₀ (c : Thread nD τ) none) Set.univ (k0_part8 xM (Memref.isWhole_whole _) wM (Memref.isWhole_whole _) oM (Memref.isWhole_whole _) sM (Memref.isWhole_whole _) rM (Memref.isWhole_whole _) cc0_scratch2 cc0_scratch3 c v5 v7 (p1 m c)) Kt := by
  rw [k0_part8_eq_skeleton]; unfold k0_part8_skel
  simp only [semSignalWord, semWaitWord, Prog.lift, Prog.bind_op, Prog.bind_ret, Prog.pure_eq_ret, wp_deviceId]
  iintro ⟨⟨#Hrec, #Hlev, HO, Ht6, HS10, Hg10⟩, Hk⟩
  iapply (step_recv m K c 6 [10, 5, 11] (by decide) rfl) $$ [Ht6 HO]
  · iframe Ht6 HO; isplitr <;> iassumption
  iintro ⟨Hr6, HO⟩
  iapply (step_read m c 6 rfl) $$ Hr6; iintro Hr6
  iapply (step_fill c sM 10 rfl) $$ HS10; iintro HS10
  iapply (step_send m K c 10 [5, 11] rfl rfl rfl rfl rfl (dev12_eq c)) $$ [HS10 Hg10 HO]
  · iframe HS10 Hg10 HO; iexact Hrec
  iintro ⟨Hs10, HO⟩
  rw [wp_ret]; imodintro
  iapply Hk
  iframe HO Hr6 Hs10

/-- Message 1 received, message 5 sent, message 7 received. -/
theorem run_part9 (c : Dev nD) (v5 v7 : BitVec 32) (Kt : FVec F S256x256 .f32 → sProp 𝕄) :
    iprop((records m K ∗ levAts L lv ∗ owing c (owed c [5, 11]) ∗ toRecv 1 c ∗ slotAny sM 5 c ∗ go 5 c ∗ toRecv 7 c)
        ∗ ((owing c (owed c [11]) ∗ recvDone m 1 c ∗ sent 5 c ∗ recvDone m 7 c) -∗ Kt (k0_pay18 (p1 m c))))
      ⊢ wp frame (wpE (defs₀ (F := F)) 𝒱₀ (c : Thread nD τ) none) Set.univ (k0_part9 xM (Memref.isWhole_whole _) wM (Memref.isWhole_whole _) oM (Memref.isWhole_whole _) sM (Memref.isWhole_whole _) rM (Memref.isWhole_whole _) cc0_scratch2 cc0_scratch3 c v5 v7 (p3 m c) (p1 m c)) Kt := by
  rw [k0_part9_eq_skeleton]; unfold k0_part9_skel
  simp only [semSignalWord, semWaitWord, Prog.lift, Prog.bind_op, Prog.bind_ret, Prog.pure_eq_ret, wp_deviceId]
  iintro ⟨⟨#Hrec, #Hlev, HO, Ht1, HS5, Hg5, Ht7⟩, Hk⟩
  iapply (step_recv m K c 1 [5, 11] (by decide) rfl) $$ [Ht1 HO]
  · iframe Ht1 HO; isplitr <;> iassumption
  iintro ⟨Hr1, HO⟩
  iapply (step_read m c 1 rfl) $$ Hr1; iintro Hr1
  iapply (step_fill c sM 5 rfl) $$ HS5; iintro HS5
  iapply (step_send m K c 5 [11] rfl rfl rfl rfl rfl (dev13_eq c)) $$ [HS5 Hg5 HO]
  · iframe HS5 Hg5 HO; iexact Hrec
  iintro ⟨Hs5, HO⟩
  iapply (step_recv m K c 7 [11] (by decide) rfl) $$ [Ht7 HO]
  · iframe Ht7 HO; isplitr <;> iassumption
  iintro ⟨Hr7, HO⟩
  rw [wp_ret]; imodintro
  iapply Hk
  iframe HO Hr1 Hs5 Hr7

/-- Message 11 sent, message 8 received. -/
theorem run_part10 (c : Dev nD) (v7 : BitVec 32) (Kt : (Σ' (v293 : FVec F S256x256 .f32), FVec F S256x256 .f32) → sProp 𝕄) :
    iprop((records m K ∗ levAts L lv ∗ owing c (owed c [11]) ∗ recvDone m 7 c ∗ slotAny sM 11 c ∗ go 11 c ∗ toRecv 8 c)
        ∗ ((owing c (owed c []) ∗ recvDone m 7 c ∗ sent 11 c ∗ recvDone m 8 c) -∗ Kt ⟨k0_pay20 (p0 m c), k0_pay21 (got m 8 c)⟩))
      ⊢ wp frame (wpE (defs₀ (F := F)) 𝒱₀ (c : Thread nD τ) none) Set.univ (k0_part10 xM (Memref.isWhole_whole _) wM (Memref.isWhole_whole _) oM (Memref.isWhole_whole _) sM (Memref.isWhole_whole _) rM (Memref.isWhole_whole _) cc0_scratch2 cc0_scratch3 c v7 (p0 m c) (k0_pay18 (p1 m c))) Kt := by
  rw [k0_part10_eq_skeleton]; unfold k0_part10_skel
  simp only [semSignalWord, semWaitWord, Prog.lift, Prog.bind_op, Prog.bind_ret, Prog.pure_eq_ret, wp_deviceId]
  iintro ⟨⟨#Hrec, #Hlev, HO, Hr7, HS11, Hg11, Ht8⟩, Hk⟩
  iapply (step_read m c 7 rfl) $$ Hr7; iintro Hr7
  iapply (step_fill c sM 11 rfl) $$ HS11; iintro HS11
  iapply (step_send m K c 11 [] rfl rfl rfl rfl rfl (dev14_eq c)) $$ [HS11 Hg11 HO]
  · iframe HS11 Hg11 HO; iexact Hrec
  iintro ⟨Hs11, HO⟩
  iapply (step_recv m K c 8 [] (by decide) rfl) $$ [Ht8 HO]
  · iframe Ht8 HO; isplitr <;> iassumption
  iintro ⟨Hr8, HO⟩
  iapply (step_read m c 8 rfl) $$ Hr8; iintro Hr8
  rw [wp_ret]; imodintro
  iapply Hk
  iframe HO Hr7 Hs11 Hr8

/-- Messages 9 and 2 received. -/
theorem run_part11 (c : Dev nD) (v5 v7 : BitVec 32) (Kt : (Σ' (v297 : FVec F S256x256 .f32) (v310 : FVec F S256x256 .f32) (v323 : FVec F S256x256 .f32), BitVec 32) → sProp 𝕄) :
    iprop((records m K ∗ levAts L lv ∗ owing c (owed c []) ∗ toRecv 9 c ∗ toRecv 2 c)
        ∗ ((owing c (owed c []) ∗ recvDone m 9 c ∗ recvDone m 2 c) -∗ Kt ⟨half m c 0, half m c 1, half m c 2, 1#32⟩))
      ⊢ wp frame (wpE (defs₀ (F := F)) 𝒱₀ (c : Thread nD τ) none) Set.univ (k0_part11 xM (Memref.isWhole_whole _) wM (Memref.isWhole_whole _) oM (Memref.isWhole_whole _) sM (Memref.isWhole_whole _) rM (Memref.isWhole_whole _) cc0_scratch2 cc0_scratch3 v5 v7 (p0 m c) (k0_pay20 (p0 m c)) (k0_pay21 (got m 8 c))) Kt := by
  rw [k0_part11_eq_skeleton]; unfold k0_part11_skel
  simp only [semSignalWord, semWaitWord, Prog.lift, Prog.bind_op, Prog.bind_ret, Prog.pure_eq_ret, wp_deviceId]
  iintro ⟨⟨#Hrec, #Hlev, HO, Ht9, Ht2⟩, Hk⟩
  iapply (step_recv m K c 9 [] (by decide) rfl) $$ [Ht9 HO]
  · iframe Ht9 HO; isplitr <;> iassumption
  iintro ⟨Hr9, HO⟩
  iapply (step_read m c 9 rfl) $$ Hr9; iintro Hr9
  iapply (step_recv m K c 2 [] (by decide) rfl) $$ [Ht2 HO]
  · iframe Ht2 HO; isplitr <;> iassumption
  iintro ⟨Hr2, HO⟩
  iapply (step_read m c 2 rfl) $$ Hr2; iintro Hr2
  rw [wp_ret, show k0_pay22 (k0_pay20 (p0 m c)) (k0_pay21 (got m 8 c)) = half m c 0 from rfl,
    show k0_pay23 (p0 m c) (got m 9 c) = half m c 1 from rfl, show k0_pay24 (p0 m c) (got m 2 c) = half m c 2 from rfl]; imodintro
  iapply Hk
  iframe HO Hr9 Hr2

/-- Messages 3 and 4 received. -/
theorem run_part12 (c : Dev nD) (v5 c1 : BitVec 32) (Kt : (Σ' (v336 : FVec F S256x256 .f32) (v350 : FVec F S256x256 .f32), FVec F S256x256 .f32) → sProp 𝕄) :
    iprop((records m K ∗ levAts L lv ∗ owing c (owed c []) ∗ toRecv 3 c ∗ toRecv 4 c)
        ∗ ((owing c (owed c []) ∗ recvDone m 3 c ∗ recvDone m 4 c) -∗ Kt ⟨half m c 3, k0_pay27 (half m c 0) (got m 4 c), k0_pay28 (half m c 0) (got m 4 c)⟩))
      ⊢ wp frame (wpE (defs₀ (F := F)) 𝒱₀ (c : Thread nD τ) none) Set.univ (k0_part12 xM (Memref.isWhole_whole _) wM (Memref.isWhole_whole _) oM (Memref.isWhole_whole _) sM (Memref.isWhole_whole _) rM (Memref.isWhole_whole _) cc0_scratch2 cc0_scratch3 v5 (p0 m c) (half m c 0) c1) Kt := by
  rw [k0_part12_eq_skeleton]; unfold k0_part12_skel
  simp only [semSignalWord, semWaitWord, Prog.lift, Prog.bind_op, Prog.bind_ret, Prog.pure_eq_ret, wp_deviceId]
  iintro ⟨⟨#Hrec, #Hlev, HO, Ht3, Ht4⟩, Hk⟩
  iapply (step_recv m K c 3 [] (by decide) rfl) $$ [Ht3 HO]
  · iframe Ht3 HO; isplitr <;> iassumption
  iintro ⟨Hr3, HO⟩
  iapply (step_read m c 3 rfl) $$ Hr3; iintro Hr3
  iapply (step_recv m K c 4 [] (by decide) rfl) $$ [Ht4 HO]
  · iframe Ht4 HO; isplitr <;> iassumption
  iintro ⟨Hr4, HO⟩
  iapply (step_read m c 4 rfl) $$ Hr4; iintro Hr4
  rw [wp_ret, show k0_pay25 (p0 m c) (got m 3 c) = half m c 3 from rfl]; imodintro
  iapply Hk
  iframe HO Hr3 Hr4

/-- Column blocks 0 and 2 stored. -/
theorem run_part13 (c : Dev nD) (v7 : BitVec 32) (f : Buf (Elt F) ((c : Thread nD τ).loc cc0_stg2_0)) (Kt : PUnit → sProp 𝕄) :
    iprop((records m K ∗ levAts L lv ∗ owing c (owed c []) ∗ outPts c f ∗ toRecv 10 c)
        ∗ ((owing c (owed c []) ∗ outPts c (put 2 (outBlk m c 2) (put 0 (outBlk m c 0) f)) ∗ recvDone m 10 c) -∗ Kt ⟨⟩))
      ⊢ wp frame (wpE (defs₀ (F := F)) 𝒱₀ (c : Thread nD τ) none) Set.univ (k0_part13 xM (Memref.isWhole_whole _) wM (Memref.isWhole_whole _) oM (Memref.isWhole_whole _) sM (Memref.isWhole_whole _) rM (Memref.isWhole_whole _) cc0_scratch2 cc0_scratch3 v7 (half m c 2) (k0_pay27 (half m c 0) (got m 4 c)) (k0_pay28 (half m c 0) (got m 4 c))) Kt := by
  rw [k0_part13_eq_skeleton]; unfold k0_part13_skel
  simp only [semSignalWord, semWaitWord, Prog.lift, Prog.bind_op, Prog.bind_ret, Prog.pure_eq_ret, wp_deviceId]
  iintro ⟨⟨#Hrec, #Hlev, HO, Hout, Ht10⟩, Hk⟩
  iapply (step_put c 0 _ rfl) $$ Hout; iintro Hout
  iapply (step_recv m K c 10 [] (by decide) rfl) $$ [Ht10 HO]
  · iframe Ht10 HO; isplitr <;> iassumption
  iintro ⟨Hr10, HO⟩
  iapply (step_read m c 10 rfl) $$ Hr10; iintro Hr10
  iapply (step_put c 2 _ rfl) $$ Hout; iintro Hout
  rw [wp_ret]; imodintro
  iapply Hk
  iframe HO Hout Hr10

/-- Column block 1 stored. -/
theorem run_part14 (c : Dev nD) (v5 v7 : BitVec 32) (f : Buf (Elt F) ((c : Thread nD τ).loc cc0_stg2_0)) (Kt : PUnit → sProp 𝕄) :
    iprop((records m K ∗ levAts L lv ∗ owing c (owed c []) ∗ outPts c f ∗ toRecv 5 c)
        ∗ ((owing c (owed c []) ∗ outPts c (put 1 (outBlk m c 1) f) ∗ recvDone m 5 c) -∗ Kt ⟨⟩))
      ⊢ wp frame (wpE (defs₀ (F := F)) 𝒱₀ (c : Thread nD τ) none) Set.univ (k0_part14 xM (Memref.isWhole_whole _) wM (Memref.isWhole_whole _) oM (Memref.isWhole_whole _) sM (Memref.isWhole_whole _) rM (Memref.isWhole_whole _) cc0_scratch2 cc0_scratch3 v5 v7 (half m c 1)) Kt := by
  rw [k0_part14_eq_skeleton]; unfold k0_part14_skel
  simp only [semSignalWord, semWaitWord, Prog.lift, Prog.bind_op, Prog.bind_ret, Prog.pure_eq_ret, wp_deviceId]
  iintro ⟨⟨#Hrec, #Hlev, HO, Hout, Ht5⟩, Hk⟩
  iapply (step_recv m K c 5 [] (by decide) rfl) $$ [Ht5 HO]
  · iframe Ht5 HO; isplitr <;> iassumption
  iintro ⟨Hr5, HO⟩
  iapply (step_read m c 5 rfl) $$ Hr5; iintro Hr5
  iapply (step_put c 1 _ rfl) $$ Hout; iintro Hout
  rw [wp_ret]; imodintro
  iapply Hk
  iframe HO Hout Hr5

/-- Column block 3 stored; message 0 has left. -/
theorem run_part15 (c : Dev nD) (f : Buf (Elt F) ((c : Thread nD τ).loc cc0_stg2_0)) (Kt : PUnit → sProp 𝕄) :
    iprop((records m K ∗ levAts L lv ∗ owing c (owed c []) ∗ outPts c f ∗ toRecv 11 c ∗ sent 0 c)
        ∗ ((owing c (owed c []) ∗ outPts c (put 3 (outBlk m c 3) f) ∗ recvDone m 11 c ∗ sentDone (F := F) 0 c) -∗ Kt ⟨⟩))
      ⊢ wp frame (wpE (defs₀ (F := F)) 𝒱₀ (c : Thread nD τ) none) Set.univ (k0_part15 xM (Memref.isWhole_whole _) wM (Memref.isWhole_whole _) oM (Memref.isWhole_whole _) sM (Memref.isWhole_whole _) rM (Memref.isWhole_whole _) cc0_scratch2 cc0_scratch3 (half m c 3)) Kt := by
  rw [k0_part15_eq_skeleton]; unfold k0_part15_skel
  simp only [semSignalWord, semWaitWord, Prog.lift, Prog.bind_op, Prog.bind_ret, Prog.pure_eq_ret, wp_deviceId]
  iintro ⟨⟨#Hrec, #Hlev, HO, Hout, Ht11, Hs0⟩, Hk⟩
  iapply (step_recv m K c 11 [] (by decide) rfl) $$ [Ht11 HO]
  · iframe Ht11 HO; isplitr <;> iassumption
  iintro ⟨Hr11, HO⟩
  iapply (step_read m c 11 rfl) $$ Hr11; iintro Hr11
  iapply (step_put c 3 _ rfl) $$ Hout; iintro Hout
  iapply (step_sent m K c 0 rfl) $$ [Hs0 HO]
  · iframe Hs0 HO; iexact Hrec
  iintro ⟨Hd0, HO⟩
  rw [wp_ret]; imodintro
  iapply Hk
  iframe HO Hout Hr11 Hd0

/-- Messages 1, 6, 7 and 2 have left. -/
theorem run_part16 (c : Dev nD) (Kt : PUnit → sProp 𝕄) :
    iprop((records m K ∗ owing c (owed c []) ∗ sent 1 c ∗ sent 6 c ∗ sent 7 c ∗ sent 2 c)
        ∗ ((owing c (owed c []) ∗ sentDone (F := F) 1 c ∗ sentDone (F := F) 6 c ∗ sentDone (F := F) 7 c ∗ sentDone (F := F) 2 c) -∗ Kt ⟨⟩))
      ⊢ wp frame (wpE (defs₀ (F := F)) 𝒱₀ (c : Thread nD τ) none) Set.univ (k0_part16 xM (Memref.isWhole_whole _) wM (Memref.isWhole_whole _) oM (Memref.isWhole_whole _) sM (Memref.isWhole_whole _) rM (Memref.isWhole_whole _) cc0_scratch2 cc0_scratch3) Kt := by
  rw [k0_part16_eq_skeleton]; unfold k0_part16_skel
  simp only [semSignalWord, semWaitWord, Prog.lift, Prog.bind_op, Prog.bind_ret, Prog.pure_eq_ret, wp_deviceId]
  iintro ⟨⟨#Hrec, HO, Hs1, Hs6, Hs7, Hs2⟩, Hk⟩
  iapply (step_sent m K c 1 rfl) $$ [Hs1 HO]
  · iframe Hs1 HO; iexact Hrec
  iintro ⟨Hd1, HO⟩
  iapply (step_sent m K c 6 rfl) $$ [Hs6 HO]
  · iframe Hs6 HO; iexact Hrec
  iintro ⟨Hd6, HO⟩
  iapply (step_sent m K c 7 rfl) $$ [Hs7 HO]
  · iframe Hs7 HO; iexact Hrec
  iintro ⟨Hd7, HO⟩
  iapply (step_sent m K c 2 rfl) $$ [Hs2 HO]
  · iframe Hs2 HO; iexact Hrec
  iintro ⟨Hd2, HO⟩
  rw [wp_ret]; imodintro
  iapply Hk
  iframe HO Hd1 Hd6 Hd7 Hd2

/-- Messages 3, 8, 9 and 4 have left. -/
theorem run_part17 (c : Dev nD) (Kt : PUnit → sProp 𝕄) :
    iprop((records m K ∗ owing c (owed c []) ∗ sent 3 c ∗ sent 8 c ∗ sent 9 c ∗ sent 4 c)
        ∗ ((owing c (owed c []) ∗ sentDone (F := F) 3 c ∗ sentDone (F := F) 8 c ∗ sentDone (F := F) 9 c ∗ sentDone (F := F) 4 c) -∗ Kt ⟨⟩))
      ⊢ wp frame (wpE (defs₀ (F := F)) 𝒱₀ (c : Thread nD τ) none) Set.univ (k0_part17 xM (Memref.isWhole_whole _) wM (Memref.isWhole_whole _) oM (Memref.isWhole_whole _) sM (Memref.isWhole_whole _) rM (Memref.isWhole_whole _) cc0_scratch2 cc0_scratch3) Kt := by
  rw [k0_part17_eq_skeleton]; unfold k0_part17_skel
  simp only [semSignalWord, semWaitWord, Prog.lift, Prog.bind_op, Prog.bind_ret, Prog.pure_eq_ret, wp_deviceId]
  iintro ⟨⟨#Hrec, HO, Hs3, Hs8, Hs9, Hs4⟩, Hk⟩
  iapply (step_sent m K c 3 rfl) $$ [Hs3 HO]
  · iframe Hs3 HO; iexact Hrec
  iintro ⟨Hd3, HO⟩
  iapply (step_sent m K c 8 rfl) $$ [Hs8 HO]
  · iframe Hs8 HO; iexact Hrec
  iintro ⟨Hd8, HO⟩
  iapply (step_sent m K c 9 rfl) $$ [Hs9 HO]
  · iframe Hs9 HO; iexact Hrec
  iintro ⟨Hd9, HO⟩
  iapply (step_sent m K c 4 rfl) $$ [Hs4 HO]
  · iframe Hs4 HO; iexact Hrec
  iintro ⟨Hd4, HO⟩
  rw [wp_ret]; imodintro
  iapply Hk
  iframe HO Hd3 Hd8 Hd9 Hd4

end Cert.RsGelu

end
-- ==== Proof.Body.lean ====
/-
# One device's run, whole

The seventeen parts of the body one after the other, at any device `c`.
-/
module

public import proofs.«01_k».proof.Proof.Parts2

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
/-- The twelve messages are those one way round and those the other way. -/
theorem bigSep_sides (Φ : Fin 12 → sProp 𝕄) :
    bigSep Finset.univ Φ = iprop(bigSep (side false) Φ ∗ bigSep (side true) Φ) :=
  (congrArg (bigSep · Φ) (show Finset.univ = side false ∪ side true by decide)).trans
    (BI.bigSep_union (show Disjoint (side false) (side true) by decide))
/-- What the two neighbours' signals bring: the slots at the messages' targets. -/
theorem targets (c : Dev nD) :
    iprop(barPay (F := F) c false ∗ barPay (F := F) c true) ⊢ bigSep Finset.univ fun j => slotAny (F := F) rM j (tgt j c) :=
  Entails.of_eq (bigSep_sides fun j => slotAny (F := F) rM j (tgt j c)).symm

/-- Device `c` runs its body: from its staged blocks, its slots and its cells' positions and tokens, to the same slots
holding what was exchanged, every counter back at zero, and the result's block stored in its four column blocks. -/
theorem run_body (c : Dev nD) (f : Buf (Elt F) ((c : Thread nD τ).loc cc0_stg2_0)) (Kt : PUnit → sProp 𝕄) :
    iprop((records m K ∗ levAts L lv ∗ dutyTok ER (barCell (dn c)) 0 true ∗ dutyTok ER (barCell (up c)) 0 false
          ∗ (bigSep Finset.univ fun j => slotAny (F := F) rM j c) ∗ (bigSep Finset.univ fun j => slotAny (F := F) sM j c)
          ∗ (bigSep Finset.univ fun j => toSend j c) ∗ (bigSep Finset.univ fun j => toRecv j c)
          ∗ atPos ER (barCell c) 0 ∅ 0 ∗ cred (tallyAt (barCell c) () 2) ∗ owing c (O₀ c)
          ∗ xPts m c ∗ wPts m c ∗ outPts c f)
        ∗ (((bigSep Finset.univ fun j => recvDone m j c) ∗ (bigSep Finset.univ fun j => sentDone (F := F) j c)
            ∗ semVal (barCell c) 0 ∗ owing c 0 ∗ xPts m c ∗ wPts m c
            ∗ outPts c (put 3 (outBlk m c 3) (put 1 (outBlk m c 1) (put 2 (outBlk m c 2) (put 0 (outBlk m c 0) f)))))
          -∗ Kt ⟨⟩))
      ⊢ wp frame (wpE (defs₀ (F := F)) 𝒱₀ (c : Thread nD τ) none) Set.univ (cc0_body xM (Memref.isWhole_whole _) wM (Memref.isWhole_whole _) oM (Memref.isWhole_whole _) sM (Memref.isWhole_whole _) rM (Memref.isWhole_whole _) cc0_scratch2 cc0_scratch3) Kt := by
  rw [cc0_body_eq_skeleton]; unfold cc0_body_skel
  rw [bigSep_sides (fun j => slotAny (F := F) rM j c)]
  simp only [bigSep_twelve]
  iintro ⟨⟨#Hrec, #Hlev, HtD, HtU, ⟨HrF, HrT⟩, ⟨HS0, HS1, HS2, HS3, HS4, HS5, HS6, HS7, HS8, HS9, HS10, HS11⟩, ⟨Hq0, Hq1, Hq2, Hq3, Hq4, Hq5, Hq6, Hq7, Hq8, Hq9, Hq10, Hq11⟩, ⟨Ht0, Ht1, Ht2, Ht3, Ht4, Ht5, Ht6, Ht7, Ht8, Ht9, Ht10, Ht11⟩, HaB, HcB, HO, Hx, Hw, Hout⟩, Hk⟩
  rw [wp_bind]
  iapply (run_part1 m K c _)
  isplitl [HtD HtU HrT HrF HaB HcB HO Hx Hw HS0]
  · iframe HtD HtU HrT HrF HaB HcB HO Hx Hw HS0; isplitr <;> iassumption
  iintro ⟨Hb, HzB, HO, Hx, Hw, HS0⟩
  ihave Hb := ((targets c).trans (Entails.of_eq (bigSep_twelve _))) $$ Hb
  icases Hb with ⟨Hg0, Hg1, Hg2, Hg3, Hg4, Hg5, Hg6, Hg7, Hg8, Hg9, Hg10, Hg11⟩
  ihave Hg0 := (show iprop(slotAny (F := F) rM 0 (tgt 0 c) ∗ toSend 0 c) ⊢ go 0 c from .rfl) $$ [Hg0 Hq0]
  · isplitl [Hg0] <;> iassumption
  ihave Hg1 := (show iprop(slotAny (F := F) rM 1 (tgt 1 c) ∗ toSend 1 c) ⊢ go 1 c from .rfl) $$ [Hg1 Hq1]
  · isplitl [Hg1] <;> iassumption
  rw [wp_bind]
  iapply (run_part2 m K c _ _ _)
  isplitl [HO HS0 Hg0 HS1 Hg1 Hx]
  · iframe HO HS0 Hg0 HS1 Hg1 Hx; iexact Hrec
  iintro ⟨Hs0, Hs1, HO, Hx⟩
  ihave Hg6 := (show iprop(slotAny (F := F) rM 6 (tgt 6 c) ∗ toSend 6 c) ⊢ go 6 c from .rfl) $$ [Hg6 Hq6]
  · isplitl [Hg6] <;> iassumption
  rw [wp_bind]
  iapply (run_part3 m K c _ _)
  isplitl [HO Hw HS6 Hg6 HS7]
  · iframe HO Hw HS6 Hg6 HS7; iexact Hrec
  iintro ⟨HO, Hw, HS7, Hs6⟩
  ihave Hg7 := (show iprop(slotAny (F := F) rM 7 (tgt 7 c) ∗ toSend 7 c) ⊢ go 7 c from .rfl) $$ [Hg7 Hq7]
  · isplitl [Hg7] <;> iassumption
  ihave Hg2 := (show iprop(slotAny (F := F) rM 2 (tgt 2 c) ∗ toSend 2 c) ⊢ go 2 c from .rfl) $$ [Hg2 Hq2]
  · isplitl [Hg2] <;> iassumption
  rw [wp_bind]
  iapply (run_part4 m K c _ _ _)
  isplitl [HO HS7 Hg7 Hx Hw HS2 Hg2 HS3]
  · iframe HO HS7 Hg7 Hx Hw HS2 Hg2 HS3; iexact Hrec
  iintro ⟨HO, Hx, Hw, HS3, Hs7, Hs2⟩
  ihave Hg3 := (show iprop(slotAny (F := F) rM 3 (tgt 3 c) ∗ toSend 3 c) ⊢ go 3 c from .rfl) $$ [Hg3 Hq3]
  · isplitl [Hg3] <;> iassumption
  rw [wp_bind]
  iapply (run_part5 m K c _ _ _ _)
  isplitl [HO HS3 Hg3 Hx Hw HS8]
  · iframe HO HS3 Hg3 Hx Hw HS8; iexact Hrec
  iintro ⟨HO, Hx, Hw, HS8, Hs3⟩
  ihave Hg8 := (show iprop(slotAny (F := F) rM 8 (tgt 8 c) ∗ toSend 8 c) ⊢ go 8 c from .rfl) $$ [Hg8 Hq8]
  · isplitl [Hg8] <;> iassumption
  ihave Hg9 := (show iprop(slotAny (F := F) rM 9 (tgt 9 c) ∗ toSend 9 c) ⊢ go 9 c from .rfl) $$ [Hg9 Hq9]
  · isplitl [Hg9] <;> iassumption
  rw [wp_bind]
  iapply (run_part6 m K c _ _ _ _)
  isplitl [HO HS8 Hg8 HS9 Hg9 Hx Hw]
  · iframe HO HS8 Hg8 HS9 Hg9 Hx Hw; iexact Hrec
  iintro ⟨HO, Hx, Hw, Hs8, Hs9⟩
  ihave Hg4 := (show iprop(slotAny (F := F) rM 4 (tgt 4 c) ∗ toSend 4 c) ⊢ go 4 c from .rfl) $$ [Hg4 Hq4]
  · isplitl [Hg4] <;> iassumption
  rw [wp_bind]
  iapply (run_part7 m K c _ _ _)
  isplitl [HO Ht0 HS4 Hg4]
  · iframe HO Ht0 HS4 Hg4; isplitr <;> iassumption
  iintro ⟨HO, Hr0, Hs4⟩
  ihave Hg10 := (show iprop(slotAny (F := F) rM 10 (tgt 10 c) ∗ toSend 10 c) ⊢ go 10 c from .rfl) $$ [Hg10 Hq10]
  · isplitl [Hg10] <;> iassumption
  rw [wp_bind]
  iapply (run_part8 m K c _ _ _)
  isplitl [HO Ht6 HS10 Hg10]
  · iframe HO Ht6 HS10 Hg10; isplitr <;> iassumption
  iintro ⟨HO, Hr6, Hs10⟩
  ihave Hg5 := (show iprop(slotAny (F := F) rM 5 (tgt 5 c) ∗ toSend 5 c) ⊢ go 5 c from .rfl) $$ [Hg5 Hq5]
  · isplitl [Hg5] <;> iassumption
  rw [wp_bind]
  iapply (run_part9 m K c _ _ _)
  isplitl [HO Ht1 HS5 Hg5 Ht7]
  · iframe HO Ht1 HS5 Hg5 Ht7; isplitr <;> iassumption
  iintro ⟨HO, Hr1, Hs5, Hr7⟩
  ihave Hg11 := (show iprop(slotAny (F := F) rM 11 (tgt 11 c) ∗ toSend 11 c) ⊢ go 11 c from .rfl) $$ [Hg11 Hq11]
  · isplitl [Hg11] <;> iassumption
  rw [wp_bind]
  iapply (run_part10 m K c _ _)
  isplitl [HO Hr7 HS11 Hg11 Ht8]
  · iframe HO Hr7 HS11 Hg11 Ht8; isplitr <;> iassumption
  iintro ⟨HO, Hr7, Hs11, Hr8⟩
  rw [wp_bind]
  iapply (run_part11 m K c _ _ _)
  isplitl [HO Ht9 Ht2]
  · iframe HO Ht9 Ht2; isplitr <;> iassumption
  iintro ⟨HO, Hr9, Hr2⟩
  rw [wp_bind]
  iapply (run_part12 m K c _ _ _)
  isplitl [HO Ht3 Ht4]
  · iframe HO Ht3 Ht4; isplitr <;> iassumption
  iintro ⟨HO, Hr3, Hr4⟩
  rw [wp_bind]
  iapply (run_part13 m K c _ _ _)
  isplitl [HO Hout Ht10]
  · iframe HO Hout Ht10; isplitr <;> iassumption
  iintro ⟨HO, Hout, Hr10⟩
  rw [wp_bind]
  iapply (run_part14 m K c _ _ _ _)
  isplitl [HO Hout Ht5]
  · iframe HO Hout Ht5; isplitr <;> iassumption
  iintro ⟨HO, Hout, Hr5⟩
  rw [wp_bind]
  iapply (run_part15 m K c _ _)
  isplitl [HO Hout Ht11 Hs0]
  · iframe HO Hout Ht11 Hs0; isplitr <;> iassumption
  iintro ⟨HO, Hout, Hr11, Hd0⟩
  rw [wp_bind]
  iapply (run_part16 m K c _)
  isplitl [HO Hs1 Hs6 Hs7 Hs2]
  · iframe HO Hs1 Hs6 Hs7 Hs2; iexact Hrec
  iintro ⟨HO, Hd1, Hd6, Hd7, Hd2⟩
  rw [wp_bind]
  iapply (run_part17 m K c _)
  isplitl [HO Hs3 Hs8 Hs9 Hs4]
  · iframe HO Hs3 Hs8 Hs9 Hs4; iexact Hrec
  iintro ⟨HO, Hd3, Hd8, Hd9, Hd4⟩
  simp only [Prog.lift, Prog.bind_op, Prog.bind_ret, Prog.pure_eq_ret]
  iapply (step_sent m K c 10 rfl) $$ [Hs10 HO]
  · iframe Hs10 HO; iexact Hrec
  iintro ⟨Hd10, HO⟩
  iapply (step_sent m K c 5 rfl) $$ [Hs5 HO]
  · iframe Hs5 HO; iexact Hrec
  iintro ⟨Hd5, HO⟩
  iapply (step_sent m K c 11 rfl) $$ [Hs11 HO]
  · iframe Hs11 HO; iexact Hrec
  iintro ⟨Hd11, HO⟩
  rw [wp_ret]; imodintro
  iapply Hk
  iframe Hr0 Hr1 Hr2 Hr3 Hr4 Hr5 Hr6 Hr7 Hr8 Hr9 Hr10 Hr11 Hd0 Hd1 Hd2 Hd3 Hd4 Hd5 Hd6 Hd7 Hd8 Hd9 Hd10 Hd11 HzB HO Hx Hw Hout

end Cert.RsGelu

end
-- ==== Proof.Result.lean ====
/-
# What device `c`'s result holds after its four stores
-/
module

public import proofs.«01_k».proof.Proof.Parts2
public import Idealize.ShloMosaic.Lib.WritesUnit
public import Idealize.ShloMosaic.Lib.ValueIdx

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.ValueIdx

/-- The result's block on device `c`: row `a`, column `b` is row `a`, column `b % 256` of column block `b / 256`. -/
def outAt (c : Dev nD) : Buf (Elt F) ((c : Thread nD τ).loc cc0_stg2_0) := fun (i : S256x1024.Idx) =>
  outBlk m c ⟨(i 1).val / 256, Nat.div_lt_of_lt_mul (i 1).isLt⟩ (ix2 (i 0) ⟨(i 1).val % 256, Nat.mod_lt _ (by decide)⟩)

variable {c : Dev nD} (f : Buf (Elt F) ((c : Thread nD τ).loc cc0_stg2_0))

/-- Under column block `k` a store there reads what was stored; -/
theorem put_in (k : Fin 4) (w : Vec F S256x256 .f32) (i : S256x1024.Idx) (h : (i 1).val / 256 = k.val) :
    put k w f i = w (ix2 (i 0) ⟨(i 1).val % 256, Nat.mod_lt _ (by decide)⟩) := by
  have hx : (colR k).emb (ix2 (i 0) ⟨(i 1).val % 256, Nat.mod_lt _ (by decide)⟩) = i := by
    funext a
    refine Fin.ext ?_
    match a with
    | 0 => show 0 + 1 * (i 0).val = (i 0).val; omega
    | 1 => show 256 * k.val + 1 * ((i 1).val % 256) = (i 1).val; omega
  have h1 := View.write_emb_of_mem (v := oM.access (colR k)) f w (M := Finset.univ)
    (x := ix2 (i 0) ⟨(i 1).val % 256, Nat.mod_lt _ (by decide)⟩) (Finset.mem_univ _)
  have h2 : (oM.access (colR k)).emb (ix2 (i 0) ⟨(i 1).val % 256, Nat.mod_lt _ (by decide)⟩) = i := hx
  rw [h2] at h1
  exact h1
/-- elsewhere the store changes nothing. -/
theorem put_out (k : Fin 4) (w : Vec F S256x256 .f32) (i : S256x1024.Idx) (h : (i 1).val / 256 ≠ k.val) :
    put k w f i = f i := by
  refine View.write_of_not_mem (v := oM.access (colR k)) f w Finset.univ fun hm => ?_
  have hm : i ∈ (colR k).set := by
    rw [View.setOn_univ] at hm
    have hs : (oM.access (colR k)).set = (colR k).set := View.set_slice_whole _ _
    rwa [hs] at hm
  rw [Rect.mem_set_unit] at hm
  obtain ⟨hl, hu⟩ : 256 * k.val ≤ (i 1).val ∧ (i 1).val < 256 * k.val + 256 := hm 1
  omega

/-- The four stores leave the result's block, whatever the buffer held. -/
theorem stored_eq :
    put 3 (outBlk m c 3) (put 1 (outBlk m c 1) (put 2 (outBlk m c 2) (put 0 (outBlk m c 0) f))) = outAt m c :=
  funext fun (i : S256x1024.Idx) => by
    have hi : (i 1).val < 1024 := (i 1).isLt
    have key (k : Fin 4) (hk : (i 1).val / 256 = k.val) :
        outAt m c i = outBlk m c k (ix2 (i 0) ⟨(i 1).val % 256, Nat.mod_lt _ (by decide)⟩) := by
      show outBlk m c ⟨(i 1).val / 256, _⟩ _ = _
      rw [show (⟨(i 1).val / 256, Nat.div_lt_of_lt_mul hi⟩ : Fin 4) = k from Fin.ext hk]
    by_cases h3 : (i 1).val / 256 = 3
    · rw [put_in _ 3 _ _ h3, key 3 h3]
    rw [put_out _ 3 _ _ h3]
    by_cases h1 : (i 1).val / 256 = 1
    · rw [put_in _ 1 _ _ h1, key 1 h1]
    rw [put_out _ 1 _ _ h1]
    by_cases h2 : (i 1).val / 256 = 2
    · rw [put_in _ 2 _ _ h2, key 2 h2]
    rw [put_out _ 2 _ _ h2]
    have h0 : (i 1).val / 256 = 0 := by omega
    rw [put_in _ 0 _ _ h0, key 0 h0]

end Cert.RsGelu

end
-- ==== Proof.Obligation.lean ====
/-
# The body as the launch asks for it

What a device holds before and after its one grid point, and the body's obligation at it.
-/
module

public import proofs.«01_k».proof.Proof.Body
public import proofs.«01_k».proof.Proof.Result
public import Idealize.ShloMosaic.Lib.Ring

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

/-! ## A slot buffer whole, and by slots -/

theorem slots_disjoint (i j : Fin 12) (h : i ≠ j) : Disjoint (slotR i).set (slotR j).set :=
  Ring.lead_disjoint (s := S12x256x256) (0 : Fin 3) 1 (fun b : Fin 12 => ![b.val, 0, 0]) S1x256x256.size slot_inb
    (fun b => (Nat.one_mul b.val).symm) rfl i j h
theorem slots_cover : Finset.univ.biUnion (fun j : Fin 12 => (slotR j).set) = Finset.univ :=
  Ring.lead_cover (s := S12x256x256) (0 : Fin 3) 1 (fun b : Fin 12 => ![b.val, 0, 0]) S1x256x256.size slot_inb
    (fun b => (Nat.one_mul b.val).symm) (fun b a ha => by fin_cases a; exact absurd rfl ha; rfl; rfl) rfl
    (fun a ha => by fin_cases a; exact absurd rfl ha; rfl; rfl) rfl

/-- The send buffer at some contents is its twelve slots at some contents, -/
theorem send_split (c : Dev nD) :
    (iprop(∃ f : Buf (Elt F) ((c : Thread nD τ).loc cc0_scratch0), ((c : Thread nD τ).loc cc0_scratch0) ↦{fullShare} f) : sProp 𝕄)
      ⊢ (bigSep Finset.univ fun j => slotAny (F := F) sM j c) := by
  have hs (j : Fin 12) : (sM.access (slotR j)).set = (slotR j).set := View.set_slice_whole _ _
  unfold slotAny
  simp only [hs]
  iintro ⟨%f, H⟩
  ihave H := (Entails.of_eq (Ring.pointsTo_blocks (ℓ := (c : Thread nD τ).loc cc0_scratch0) (fun j : Fin 12 => (slotR j).set) slots_disjoint slots_cover f)) $$ H
  have h : (bigSep Finset.univ fun j : Fin 12 => (((c : Thread nD τ).loc cc0_scratch0) ↦[(slotR j).set]{fullShare} f : sProp 𝕄))
      ⊢ bigSep Finset.univ fun j : Fin 12 => iprop(∃ f : Buf (Elt F) ((c : Thread nD τ).loc cc0_scratch0), (((c : Thread nD τ).loc cc0_scratch0) ↦[(slotR j).set]{fullShare} f)) :=
    bigSep_mono fun j _ =>
    show (((c : Thread nD τ).loc cc0_scratch0) ↦[(slotR j).set]{fullShare} f : sProp 𝕄)
        ⊢ iprop(∃ f : Buf (Elt F) ((c : Thread nD τ).loc cc0_scratch0), (((c : Thread nD τ).loc cc0_scratch0) ↦[(slotR j).set]{fullShare} f)) from by
      iintro H; iexists f; iexact H
  iapply h; iexact H
/-- and the slots make the buffer again; -/
theorem send_join (c : Dev nD) :
    (bigSep Finset.univ fun j => slotAny (F := F) sM j c)
      ⊢ (iprop(∃ f : Buf (Elt F) ((c : Thread nD τ).loc cc0_scratch0), ((c : Thread nD τ).loc cc0_scratch0) ↦{fullShare} f) : sProp 𝕄) := by
  have hs (j : Fin 12) : (sM.access (slotR j)).set = (slotR j).set := View.set_slice_whole _ _
  unfold slotAny
  simp only [hs]
  exact Ring.pointsTo_blocks_join_exists (ℓ := (c : Thread nD τ).loc cc0_scratch0) (fun j : Fin 12 => (slotR j).set) slots_disjoint slots_cover
    (constant (F := F) S12x256x256 .bf16 0#16)
/-- the receive buffer is its twelve slots, -/
theorem recv_split (c : Dev nD) :
    (iprop(∃ f : Buf (Elt F) ((c : Thread nD τ).loc cc0_scratch1), ((c : Thread nD τ).loc cc0_scratch1) ↦{fullShare} f) : sProp 𝕄)
      ⊢ (bigSep Finset.univ fun j => slotAny (F := F) rM j c) := by
  have hs (j : Fin 12) : (rM.access (slotR j)).set = (slotR j).set := View.set_slice_whole _ _
  unfold slotAny
  simp only [hs]
  iintro ⟨%f, H⟩
  ihave H := (Entails.of_eq (Ring.pointsTo_blocks (ℓ := (c : Thread nD τ).loc cc0_scratch1) (fun j : Fin 12 => (slotR j).set) slots_disjoint slots_cover f)) $$ H
  have h : (bigSep Finset.univ fun j : Fin 12 => (((c : Thread nD τ).loc cc0_scratch1) ↦[(slotR j).set]{fullShare} f : sProp 𝕄))
      ⊢ bigSep Finset.univ fun j : Fin 12 => iprop(∃ f : Buf (Elt F) ((c : Thread nD τ).loc cc0_scratch1), (((c : Thread nD τ).loc cc0_scratch1) ↦[(slotR j).set]{fullShare} f)) :=
    bigSep_mono fun j _ =>
    show (((c : Thread nD τ).loc cc0_scratch1) ↦[(slotR j).set]{fullShare} f : sProp 𝕄)
        ⊢ iprop(∃ f : Buf (Elt F) ((c : Thread nD τ).loc cc0_scratch1), (((c : Thread nD τ).loc cc0_scratch1) ↦[(slotR j).set]{fullShare} f)) from by
      iintro H; iexists f; iexact H
  iapply h; iexact H
/-- and the slots make it again. -/
theorem recv_join (c : Dev nD) :
    (bigSep Finset.univ fun j => slotAny (F := F) rM j c)
      ⊢ (iprop(∃ f : Buf (Elt F) ((c : Thread nD τ).loc cc0_scratch1), ((c : Thread nD τ).loc cc0_scratch1) ↦{fullShare} f) : sProp 𝕄) := by
  have hs (j : Fin 12) : (rM.access (slotR j)).set = (slotR j).set := View.set_slice_whole _ _
  unfold slotAny
  simp only [hs]
  exact Ring.pointsTo_blocks_join_exists (ℓ := (c : Thread nD τ).loc cc0_scratch1) (fun j : Fin 12 => (slotR j).set) slots_disjoint slots_cover
    (constant (F := F) S12x256x256 .bf16 0#16)

/-! ## Before and after -/

/-- What device `c` starts with: the records, the duties it is to pay, its cells' positions and the credit that will come. -/
def start (c : Dev nD) : sProp 𝕄 :=
  iprop((∃ K, records m K ∗ dutyTok ER (barCell (dn c)) 0 true ∗ dutyTok ER (barCell (up c)) 0 false
        ∗ (bigSep Finset.univ fun j => toSend (F := F) j c) ∗ (bigSep Finset.univ fun j => atPos ER (rcvCell j c) 0 ∅ 0)
        ∗ atPos ER (barCell c) 0 ∅ 0)
      ∗ levAts L lv ∗ cred (tallyAt (barCell c) () 2) ∗ bigSep Finset.univ fun j => cred (tallyAt (rcvCell j c) () N))
def Φ₀ (c : Dev nD) : sProp 𝕄 :=
  iprop(start m c ∗ (bigSep Finset.univ fun j => slotAny (F := F) rM j c) ∗ (bigSep Finset.univ fun j => slotAny (F := F) sM j c))
/-- What it ends with: its slots, and every counter back at zero. -/
def Φ₁ (c : Dev nD) : sProp 𝕄 :=
  iprop((bigSep Finset.univ fun j => recvDone m j c) ∗ (bigSep Finset.univ fun j => sentDone (F := F) j c) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The one grid point. -/
abbrev t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (c : Dev nD) (d) : (dats m 0 c).before (0 : Fin 3) t₀ d = xstg m c := by
  unfold Dat.before; rw [if_pos (show (cfg0.win (0 : Fin 3)).fetch t₀ = true from rfl)]; rfl
theorem before_w (c : Dev nD) (d) : (dats m 0 c).before (1 : Fin 3) t₀ d = wstg m c := by
  unfold Dat.before; rw [if_pos (show (cfg0.win (1 : Fin 3)).fetch t₀ = true from rfl)]; rfl

def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))
def bodyPost (c : Dev nD) : sProp 𝕄 :=
  iprop(Φ₁ m c ∗ (dats m 0 c).owesAt () t₀.succ ∗ stg c cc0_stg0_0 (xstg m c) ∗ stg c cc0_stg1_0 (wstg m c) ∗ stg c cc0_stg2_0 (outAt m c))

set_option maxRecDepth 20000 in
/-- Device `c`'s body, from what the launch gives it to what the launch takes back. -/
theorem run_point (c : Dev nD) : bodyPre m c ⊢ wp frame (wpE (defs₀ (F := F)) 𝒱₀ (c : Thread nD τ) none) Set.univ (cc0_body xM (Memref.isWhole_whole _) wM (Memref.isWhole_whole _) oM (Memref.isWhole_whole _) sM (Memref.isWhole_whole _) rM (Memref.isWhole_whole _) cc0_scratch2 cc0_scratch3) (fun _ => bodyPost m c) := by
  unfold bodyPre Φ₀ start Dat.owesAt Pipeline.owesWithin
  simp only [before_x, before_w]
  iintro ⟨⟨⟨⟨%K, #Hrec, HtD, HtU, HtS, HaR, HaB⟩, #Hlev, HcB, HcR⟩, HsR, HsS⟩, ⟨%W, -, HO⟩, ⟨%_, %fx, %hx, Hx⟩, ⟨%_, %fw, %hw, Hw⟩, ⟨%_, %fo, -, Hout⟩⟩
  subst hx hw
  iapply (run_body m K c fo)
  isplitr []
  · unfold owing xPts wPts outPts toRecv
    simp only [bigSep_sep']
    iframe HtD HtU HsR HsS HtS HaR HcR HaB HcB Hx Hw Hout
    isplitr; · iexact Hrec
    isplitr; · iexact Hlev
    iexists W; iexact HO
  · rw [stored_eq]
    unfold bodyPost Φ₁ Dat.owesAt Pipeline.owesWithin owing xPts wPts outPts
    iintro ⟨HR, HS, HzB, ⟨%W', HO⟩, Hx, Hw, Hout⟩
    iframe HR HS HzB
    isplitl [HO]
    · iexists W'; isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Hout

set_option maxRecDepth 20000 in
/-- The body's obligation on device `c`. -/
theorem body_obligation (c : Dev nD) : BodyObligation (dats (F := F) m 0 c) (defs₀ (F := F)) 𝒱₀ () Set.univ := fun t => by
  rw [show t = t₀ from fin_N0 t, bigSep_W0, bigSep_W0]
  simp only [owns_whole_eq]
  exact run_point m c

end Cert.RsGelu

end
-- ==== Proof.Ghost.lean ====
/-
# The launch's set-up: the cells' records, the tokens and the credit, dealt to the devices
-/
module

public import proofs.«01_k».proof.Proof.Obligation

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

theorem csem_injective : Function.Injective csem := by
  have hv : ∀ k : Fin 12 ⊕ Fin 12, ∃ q : DmaSem sig, osem k = .dma q ∧ q.val = Sum.elim (fun j : Fin 12 => 3 + j.val) (fun j : Fin 12 => 15 + j.val) k := by
    rintro (j | j)
    · exact ⟨sndS j, rfl, sndS_val j⟩
    · exact ⟨rcvS j, rfl, rcvS_val j⟩
  rintro (_ | k) (_ | k') h
  · rfl
  · exact nomatch (show SemLoc.reg barS = osem k' from h).trans (hv k').choose_spec.1
  · exact nomatch ((hv k).choose_spec.1.symm.trans (show osem k = SemLoc.reg barS from h))
  · obtain ⟨q, hq, hqv⟩ := hv k
    obtain ⟨q', hq', hqv'⟩ := hv k'
    have hqq : q = q' := SemLoc.dma.inj (hq.symm.trans ((show osem k = osem k' from h).trans hq'))
    subst hqq
    have hs := hqv.symm.trans hqv'
    rcases k with j | j <;> rcases k' with j' | j' <;> simp only [Sum.elim_inl, Sum.elim_inr] at hs
    · rw [show j = j' from Fin.ext (by omega)]
    · have := j.isLt; omega
    · have := j'.isLt; omega
    · rw [show j = j' from Fin.ext (by omega)]

theorem kcell_injective : Function.Injective kcell := fun x y h => by
  have h1 : x.1 = y.1 := congrArg (fun g : GSem nD τ sig => g.1.1) h
  have h2 : x.2 = y.2 := csem_injective (congrArg Prod.snd h)
  exact Prod.ext h1 h2

def ringCells : Finset (GSem nD τ sig) := Finset.univ.map ⟨kcell, kcell_injective⟩

/-- The duties of a device's own cells: its barrier's two, and one of each of its twenty-four transfer cells. -/
abbrev DK : Type := Bool ⊕ (Fin 12 ⊕ Fin 12)
def tokOf (x : Dev nD × DK) : GSem nD τ sig × ℕ × Bool := match x.2 with
  | .inl b => (barCell x.1, 0, b)
  | .inr k => (kcell (x.1, .inr k), 0, false)
theorem tokOf_injective : Function.Injective tokOf := by
  rintro ⟨c, k⟩ ⟨c', k'⟩ h
  have hcell : kcell (c, k.map (fun _ => ()) id) = kcell (c', k'.map (fun _ => ()) id) := by
    have h1 := congrArg (fun x : GSem nD τ sig × ℕ × Bool => x.1) h
    rcases k with b | k <;> rcases k' with b' | k' <;> exact h1
  have hp := kcell_injective hcell
  obtain rfl : c = c' := congrArg Prod.fst hp
  have hk := congrArg Prod.snd hp
  have hb := congrArg (fun x : GSem nD τ sig × ℕ × Bool => x.2.2) h
  rcases k with b | k <;> rcases k' with b' | k'
  · rw [show b = b' from hb]
  · exact nomatch hk
  · exact nomatch hk
  · rw [show k = k' from Sum.inr.inj hk]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- A family over a device's cells, one by one kind. -/
theorem bigSep_cells (Φ : CK → sProp 𝕄) :
    bigSep Finset.univ Φ = iprop(Φ (.inl ()) ∗ (bigSep Finset.univ fun j => Φ (.inr (.inl j))) ∗ bigSep Finset.univ fun j => Φ (.inr (.inr j))) := by
  rw [BI.bigSep_univ_sum, BI.bigSep_univ_sum, BI.bigSep_univ_of_subsingleton ()]; rfl

/-! ## What is dealt -/

/-- The duty tokens of device `c`'s own cells. -/
def toks (c : Dev nD) : sProp 𝕄 :=
  iprop((dutyTok ER (barCell c) 0 false ∗ dutyTok ER (barCell c) 0 true)
    ∗ (bigSep Finset.univ fun j => dutyTok ER (sndCell j c) 0 false) ∗ bigSep Finset.univ fun j => dutyTok ER (rcvCell j c) 0 false)

/-- What the launch deals device `c`. -/
def G (c : Dev nD) : sProp 𝕄 :=
  iprop((bigSep Finset.univ fun k : CK => roundState ER (rsRd m) (kcell (c, k)) 0)
    ∗ (bigSep Finset.univ fun k : CK => atPos ER (kcell (c, k)) 0 ∅ 0)
    ∗ (bigSep Finset.univ fun k : CK => reached ER (kcell (c, k)) 0) ∗ toks c)

/-- What device `c` alone gets of the ghost state: the tokens of the duties it pays, its cells' positions. -/
def own (c : Dev nD) : sProp 𝕄 :=
  iprop(dutyTok ER (barCell (dn c)) 0 true ∗ dutyTok ER (barCell (up c)) 0 false
    ∗ (bigSep Finset.univ fun j => toSend (F := F) j c) ∗ (bigSep Finset.univ fun j => atPos ER (rcvCell j c) 0 ∅ 0)
    ∗ atPos ER (barCell c) 0 ∅ 0)
/-- What is made of it for device `c`. -/
def G' (c : Dev nD) : sProp 𝕄 := iprop(∃ K, records m K ∗ own (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    refine BI.bigSep_congr fun c _ => ?_
    rw [BI.bigSep_univ_sum, BI.bigSep_univ_sum, bigSep_univ_eq_bigSepL [false, true] (by decide) (by decide), bigSepL_cons_cons, bigSepL_singleton]
    unfold toks
    rfl
  iintro HX
  imod (Rounds.fund ER (rsRd m) ringCells ringToks) $$ HX with ⟨Hst, Hr, Hat, Htok⟩
  imodintro
  ihave Hst := (Entails.of_eq (hX fun g => roundState ER (rsRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  iframe Hst Hat Hr Htok

/-- The kernel's own semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sndCell j c) 0) ∗ bigSep Finset.univ fun j => semVal (rcvCell j c) 0) :=
  BI.bigSep_univ_sum (fun k => (semVal ((c : Thread nD τ), osem k) 0 : sProp 𝕄))
/-- the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Device `c`'s counters at zero open its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rsRd m) κ (kcell (c, k))))
          ∗ (bigSep Finset.univ fun k : CK => atPos ER (kcell (c, k)) 0 ∅ 0)
          ∗ (bigSep Finset.univ fun k : CK => reached ER (kcell (c, k)) 0) ∗ toks c) := by
  have hopen : iprop((bigSep Finset.univ fun k : CK => semVal (kcell (c, k)) 0) ∗ bigSep Finset.univ fun k : CK => roundState ER (rsRd m) (kcell (c, k)) 0)
      ⊢ (|={Set.univ}=> bigSep Finset.univ fun k : CK => iprop(∃ κ : ℕ, cellInv ER (rsRd m) κ (kcell (c, k))) : sProp 𝕄) := by
    rw [← bigSep_sep']
    exact (bigSep_mono fun k _ => (Rounds.body_intro ER (rsRd m) (kcell (c, k))).trans inv_alloc).trans (bigSep_fupd _ _)
  have hv : iprop(semVal (barCell c) 0 ∗ (bigSep Finset.univ fun j => semVal (sndCell j c) 0) ∗ bigSep Finset.univ fun j => semVal (rcvCell j c) 0)
      ⊢ (bigSep Finset.univ fun k : CK => semVal (kcell (c, k)) 0 : sProp 𝕄) :=
    Entails.of_eq (bigSep_cells (fun k => (semVal (kcell (c, k)) 0 : sProp 𝕄))).symm
  rw [ownSems0_eq, unscopedSems0_eq]
  unfold G
  iintro ⟨⟨HS, HV⟩, HB, Hst, Hat, Hr, Htok⟩
  ihave Hv := hv $$ [HS HV HB]
  · iframe HB HS HV
  imod hopen $$ [Hv Hst] with Hinv
  · isplitl [Hv] <;> iassumption
  imodintro
  iframe Hinv Hat Hr Htok

/-- A receive cell's token goes to the device whose message it counts. -/
theorem tokens_routed :
    (bigSep Finset.univ fun c : Dev nD => bigSep Finset.univ fun j : Fin 12 => (dutyTok ER (rcvCell j c) 0 false : sProp 𝕄))
      = bigSep Finset.univ fun c : Dev nD => bigSep Finset.univ fun j : Fin 12 => dutyTok ER (rcvCell j (tgt j c)) 0 false := by
  rw [BI.bigSep_univ_comm, BI.bigSep_univ_comm (fun (c : Dev nD) (j : Fin 12) => (dutyTok ER (rcvCell j (tgt j c)) 0 false : sProp 𝕄))]
  exact BI.bigSep_congr fun j _ => BI.bigSep_univ_equiv (route j) (fun c : Dev nD => (dutyTok ER (rcvCell j c) 0 false : sProp 𝕄))

/-- Tokens and positions as the devices need them. -/
theorem dealt :
    iprop((bigSep Finset.univ fun c : Dev nD => bigSep Finset.univ fun k : CK => atPos ER (kcell (c, k)) 0 ∅ 0)
        ∗ bigSep Finset.univ fun c : Dev nD => (toks c : sProp 𝕄))
      ⊢ bigSep Finset.univ fun c : Dev nD => (own c : sProp 𝕄) := by
  have hat : (bigSep Finset.univ fun c : Dev nD => bigSep Finset.univ fun k : CK => (atPos ER (kcell (c, k)) 0 ∅ 0 : sProp 𝕄))
      = bigSep Finset.univ fun c : Dev nD => iprop(atPos ER (barCell c) 0 ∅ 0 ∗ (bigSep Finset.univ fun j => atPos ER (sndCell j c) 0 ∅ 0)
          ∗ bigSep Finset.univ fun j => atPos ER (rcvCell j c) 0 ∅ 0) :=
    BI.bigSep_congr fun c _ => bigSep_cells (fun k => (atPos ER (kcell (c, k)) 0 ∅ 0 : sProp 𝕄))
  rw [hat]
  unfold toks own toSend
  simp only [bigSep_sep']
  rw [BI.bigSep_univ_equiv ring (fun c : Dev nD => (dutyTok ER (barCell c) 0 false : sProp 𝕄)),
    BI.bigSep_univ_equiv ring.symm (fun c : Dev nD => (dutyTok ER (barCell c) 0 true : sProp 𝕄)), tokens_routed]
  iintro ⟨⟨HaB, HaS, HaR⟩, ⟨HtF, HtT⟩, HtS, HtR⟩
  isplitl [HtT]; · iexact HtT
  isplitl [HtF]; · iexact HtF
  iframe HaS HtS HtR HaR HaB

/-- Every device's cells are open under one table of names. -/
theorem regroup :
    (bigSep Finset.univ fun c : Dev nD => iprop((bigSep Finset.univ fun k : CK => iprop(∃ κ : ℕ, cellInv ER (rsRd m) κ (kcell (c, k))))
          ∗ (bigSep Finset.univ fun k : CK => atPos ER (kcell (c, k)) 0 ∅ 0)
          ∗ (bigSep Finset.univ fun k : CK => reached ER (kcell (c, k)) 0) ∗ toks c) : sProp 𝕄)
      ⊢ bigSep Finset.univ (G' m) := by
  have hgive (K : Dev nD × CK → ℕ) : iprop(records m K ∗ bigSep Finset.univ fun c : Dev nD => (own c : sProp 𝕄)) ⊢ bigSep Finset.univ (G' m) := by
    refine (sep_mono_left (BI.bigSep_of_persistent (Finset.univ : Finset (Dev nD)) (records m K))).trans ?_
    rw [← bigSep_sep']
    refine bigSep_mono fun c _ => ?_
    show iprop(records m K ∗ own c) ⊢ G' m c
    unfold G'
    iintro H; iexists K; iexact H
  simp only [bigSep_sep']
  rw [← BI.bigSep_univ_prod (fun ck : Dev nD × CK => iprop(∃ κ : ℕ, cellInv ER (rsRd m) κ (kcell ck))),
    ← BI.bigSep_univ_prod (fun ck : Dev nD × CK => (reached ER (kcell ck) 0 : sProp 𝕄))]
  iintro ⟨HI, Hat, #HR, Htok⟩
  ihave HK := (BI.bigSep_exists_pi Finset.univ (fun (ck : Dev nD × CK) (κ : ℕ) => (cellInv ER (rsRd m) κ (kcell ck) : sProp 𝕄))) $$ HI
  icases HK with ⟨%K, #HI⟩
  ihave Ho := (dealt (F := F)) $$ [Hat Htok]
  · isplitl [Hat] <;> iassumption
  iapply (hgive K)
  isplitr
  · unfold records; isplitl; · iexact HI
    iexact HR
  iexact Ho

/-- All devices' counters at once: every cell open, every device's share dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem bar_ne_rcv (j : Fin 12) (a b : Dev nD) : barCell a ≠ rcvCell j b := fun h => nomatch congrArg Prod.snd h
theorem bar_inj {a b : Dev nD} (h : barCell a = barCell b) : a = b := congrArg (fun g : GSem nD τ sig => g.1.1) h
theorem rcv_inj {i j : Fin 12} {a b : Dev nD} (h : rcvCell i a = rcvCell j b) : i = j ∧ a = b := by
  have hp := kcell_injective (show kcell (a, .inr (.inr i)) = kcell (b, .inr (.inr j)) from h)
  exact ⟨Sum.inr.inj (Sum.inr.inj (congrArg Prod.snd hp)), congrArg Prod.fst hp⟩

theorem owed_bar (d c : Dev nD) (l : List (Fin 12)) : owed d l (barCell c) () = 0 := by
  by_contra h
  obtain ⟨j, -, hj⟩ := owed_pos (Nat.pos_of_ne_zero h)
  exact bar_ne_rcv j _ _ hj
/-- Device `d` owes device `c`'s receive cell of message `j` one transfer for each time `j` is in the list, if `d` sends to `c`. -/
theorem owed_rcv (d c : Dev nD) (j : Fin 12) (l : List (Fin 12)) :
    owed d l (rcvCell j c) () = if d = src j c then l.count j * N else 0 := by
  induction l with
  | nil => simp [owed]
  | cons i l ih =>
    unfold owed
    rw [Pi.add_apply, Finsupp.add_apply, ih, tallyAt_apply]
    by_cases hd : d = src j c
    · rw [if_pos hd, if_pos hd]
      by_cases hi : i = j
      · subst hi
        rw [if_pos ⟨by rw [hd, tgt_src], rfl⟩, List.count_cons_self, Nat.add_mul, Nat.one_mul]
      · rw [if_neg (fun h => hi (rcv_inj h.1).1.symm), List.count_cons_of_ne hi, Nat.add_zero]
    · rw [if_neg hd, if_neg hd, Nat.zero_add]
      refine if_neg fun h => hd ?_
      obtain ⟨rfl, rfl⟩ := rcv_inj h.1
      exact (src_tgt _ _).symm

theorem credit_bar (c : Dev nD) : ∑ d : Dev nD, O₀ d (barCell c) () = 2 := by
  have h (d : Dev nD) : O₀ d (barCell c) () = (if d = dn c then 1 else 0) + (if d = up c then 1 else 0) := by
    unfold O₀
    rw [Pi.add_apply, Finsupp.add_apply, Pi.add_apply, Finsupp.add_apply, owed_bar, tallyAt_apply, tallyAt_apply, Nat.zero_add]
    congr 1
    · by_cases hd : d = dn c
      · subst hd; rw [up_dn, if_pos ⟨rfl, rfl⟩, if_pos rfl]
      · rw [if_neg fun h' => hd (by rw [bar_inj h'.1, dn_up]), if_neg hd]
    · by_cases hd : d = up c
      · subst hd; rw [dn_up, if_pos ⟨rfl, rfl⟩, if_pos rfl]
      · rw [if_neg fun h' => hd (by rw [bar_inj h'.1, up_dn]), if_neg hd]
  rw [Finset.sum_congr rfl fun d _ => h d, Finset.sum_add_distrib, Finset.sum_ite_eq', Finset.sum_ite_eq', if_pos (Finset.mem_univ _), if_pos (Finset.mem_univ _)]
theorem credit_rcv (c : Dev nD) (j : Fin 12) : ∑ d : Dev nD, O₀ d (rcvCell j c) () = N := by
  have hc : order.count j = 1 := by revert j; decide
  have h (d : Dev nD) : O₀ d (rcvCell j c) () = if d = src j c then N else 0 := by
    unfold O₀
    rw [Pi.add_apply, Finsupp.add_apply, Pi.add_apply, Finsupp.add_apply, owed_rcv, hc, Nat.one_mul,
      tallyAt_ne_cell (bar_ne_rcv j _ _).symm, tallyAt_ne_cell (bar_ne_rcv j _ _).symm, Finsupp.zero_apply, Nat.add_zero, Nat.add_zero]
  rw [Finset.sum_congr rfl fun d _ => h d, Finset.sum_ite_eq', if_pos (Finset.mem_univ _)]

/-- A cell's launch credit is what the devices owe it. -/
theorem launch_cell {g : GSem nD τ sig} {n : ℕ} (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem creds (c : Dev nD) :
    (Pipeline.launchCred O₀ c : sProp 𝕄) ⊢ iprop(cred (tallyAt (barCell c) () 2) ∗ bigSep Finset.univ fun j => cred (tallyAt (rcvCell j c) () N)) := by
  have hsub : (Pipeline.launchCred O₀ c : sProp 𝕄)
      ⊢ bigSep Finset.univ fun k : CK => cred (tallyOn (kcell (c, k)) (launchCredit (Pipeline.owing O₀) 0 (kcell (c, k)))) := by
    unfold Pipeline.launchCred
    exact (BI.bigSep_subset (Finset.subset_univ (Finset.univ.map ⟨csem, csem_injective⟩))).trans (Entails.of_eq (BI.bigSep_map _))
  have hsplit := bigSep_cells (fun k => (cred (tallyOn (kcell (c, k)) (launchCredit (Pipeline.owing O₀) 0 (kcell (c, k)))) : sProp 𝕄))
  have hb : (tallyOn (kcell (c, .inl ())) (launchCredit (Pipeline.owing O₀) 0 (kcell (c, .inl ()))) : CellTallies nD τ sig Unit) = tallyAt (barCell c) () 2 :=
    launch_cell (credit_bar c)
  have hr (j : Fin 12) : (tallyOn (kcell (c, .inr (.inr j))) (launchCredit (Pipeline.owing O₀) 0 (kcell (c, .inr (.inr j)))) : CellTallies nD τ sig Unit)
      = tallyAt (rcvCell j c) () N := launch_cell (credit_rcv c j)
  simp only [hb, hr] at hsplit
  iintro H
  ihave H := hsub $$ H
  ihave H := (Entails.of_eq hsplit) $$ H
  icases H with ⟨HB, -, HR⟩
  isplitl [HB] <;> iassumption

end Cert.RsGelu

end
-- ==== Proof.Launch.lean ====
/-
# The launch: the four devices run to the end, and what every memory they end in holds
-/
module

public import proofs.«01_k».proof.Proof.Ghost
public import Idealize.ShloMosaic.Lib.Pipeline.CollectiveSegs
public import Idealize.ShloMosaic.Lib.Pipeline.ValueKit

@[expose] public section

noncomputable section

namespace Cert.RsGelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-- The machine before the run: memory `m`, every counter at zero. -/
def s₀ : MemSt nD τ sig (Elt F) := ⟨m, fun _ => 0, ρ⟩

theorem ownSemFacts : Pipeline.OwnSemFacts cfg0.spec osem where
  isScoped := by decide
  inj := fun a b h => Sum.inr.inj (csem_injective (show csem (.inr a) = csem (.inr b) from h))
  disj := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start own
  iintro ⟨-, Hlev, Hcr, -, HG⟩
  ihave Hc := (creds (F := F) c) $$ Hcr
  icases Hc with ⟨HB, HR⟩
  imodintro
  isplitl
  · iframe HG Hlev HB HR
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, HS, HR⟩
  ihave HS := (send_split (F := F) c) $$ HS
  ihave HR := (recv_split (F := F) c) $$ HR
  iframe Hs HR HS

theorem phi1_exit (c : Dev nD) :
    (dats m 0 c).Φ (Fin.last cfg0.N) ⊢ iprop(unscopedSems0 c ∗ Pipeline.ownSems0 osem c ∗ Pipeline.scopedRest cfg0.spec c) := by
  have hslot : (bigSep Finset.univ fun j => slotPts rM j c (got m j c)) ⊢ (bigSep Finset.univ fun j => slotAny (F := F) rM j c : sProp 𝕄) :=
    bigSep_mono fun j _ => slotAny_of_pts rM j c _
  rw [show (dats m 0 c).Φ (Fin.last cfg0.N) = Φ₁ m c from rfl, scopedRest0_eq, ownSems0_eq, unscopedSems0_eq]
  unfold Φ₁ recvDone sentDone
  simp only [bigSep_sep']
  iintro ⟨⟨HR, HzR⟩, ⟨HS, HzS⟩, HzB⟩
  ihave HR := hslot $$ HR
  ihave HR := (recv_join (F := F) c) $$ HR
  ihave HS := (send_join (F := F) c) $$ HS
  iframe HzB HzS HzR HS HR

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What device `c`'s array of window `w` holds at the end. -/
def finalA (c : Dev nD) (w : Fin cfg0.W) : Buf (Elt F) ((cfg0.win w).arr.view.loc (c : Thread nD τ)) := (dats m 0 c).arrAt w cfg0.N

/-- A final state whose arrays are those. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every counter at zero, for any float values: every weakly fair run of the four devices ends,
with each device's arrays as `finalA` says and every counter back at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation m) (hne := fun w => by fin_cases w <;> exact Nat.succ_pos _)
    (harr := arr_whole0) (hstage := stage_whole0) (hshare := share_eq m) (hdistinct := winFacts0.arr_inj)
    (O₀ := O₀) (howed₀ := fun _ => rfl) (howedN := fun _ => rfl) (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m) (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were; -/
theorem final_x (c : Dev nD) : finalA m c (0 : Fin 3) = m ((c : Thread nD τ).loc main_arg0) := (dats m 0 c).arrAt_in (0 : Fin 3) rfl _
theorem final_w (c : Dev nD) : finalA m c (1 : Fin 3) = m ((c : Thread nD τ).loc main_arg1) := (dats m 0 c).arrAt_in (1 : Fin 3) rfl _

set_option maxRecDepth 16384 in
/-- the result ends as the one point leaves its block, which is the whole of it. -/
theorem final_out (c : Dev nD) : finalA m c (2 : Fin 3) = outAt m c := by
  refine (dats m 0 c).arrAt_eq_of_after_last (2 : Fin 3) t0_0 (by decide +kernel) _ fun j => ?_
  rfl

/-- What a run ends in: the arguments unchanged and the result at `outAt`, on every device, and every counter at zero. -/
theorem run : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (final_out m c), (h.1 c (0 : Fin 3)).trans (final_x m c),
    (h.1 c (1 : Fin 3)).trans (final_w m c)⟩, h.2⟩) (run_main m ρ)

end Cert.RsGelu

end
-- ==== Proof.Blocks.lean ====
/-
# What each payload of the kernel computes over the extended reals, at one place
-/
module

public import proofs.«01_k».proof.Proof.Protocol
public import Idealize.ShloMosaic.Lib.Pointwise

@[expose] public section

noncomputable section

namespace Cert.RsGelu

open Cert.KernelIdeal Cert.KernelIdeal.Gen
open Idealize.ShloMosaic
open Idealize.ShloMosaic.TcCoe

/-- Column `b` of column block `q` of 256. -/
def colOf (q : Fin 4) (b : Fin 256) : Fin 1024 := ⟨256 * q.val + b.val, by omega⟩

/-- Row `a` of `X` times column `b` of `W`. -/
def rowCol {n : ℕ} (X : FVec Ideal S256x256 .bf16) (W : FVec Ideal ⟨2, ![256, n]⟩ .bf16) (a : Fin 256) (b : Fin n) : EReal :=
  ∑ k : Fin 256, X (ix2 a k) * W (ix2 k b)

/-- The tanh form of gelu: `½·y·(1 + tanh (√(2/π)·(y + 0.044715·y³)))`, the constants as float words. -/
def gelu (y : EReal) : EReal :=
  Ideal.ofBits .f32 0x3F000000#32 * y
    * (Ideal.ofBits .f32 0x3F800000#32
        + Ideal.tanh (Ideal.ofBits .f32 0x3F4C422A#32 * (y + Ideal.ofBits .f32 0x3D372713#32 * (y * y * y))))

variable (X : FVec Ideal S256x256 .bf16) (a b : Fin 256)

/-! ## The products: all columns, or half of them -/

theorem pay8_at (W : FVec Ideal S256x1024 .bf16) (b : Fin 1024) : k0_pay8 (F := Ideal) X W (ix2 a b) = rowCol X W a b := by
  pointwise [k0_pay8, rowCol]
theorem pay11_at (W : FVec Ideal S256x1024 .bf16) (b : Fin 1024) : k0_pay11 (F := Ideal) X W (ix2 a b) = rowCol X W a b := by
  pointwise [k0_pay11, rowCol]
theorem pay14_at (W : FVec Ideal S256x1024 .bf16) (b : Fin 1024) : k0_pay14 (F := Ideal) X W (ix2 a b) = rowCol X W a b := by
  pointwise [k0_pay14, rowCol]
theorem pay1_at (W : FVec Ideal S256x512 .bf16) (b : Fin 512) : k0_pay1 (F := Ideal) X W (ix2 a b) = rowCol X W a b := by
  pointwise [k0_pay1, rowCol]

/-! ## The first messages: 256 columns of a product -/

theorem pay2_at (W : FVec Ideal S256x512 .bf16) : k0_pay2 (F := Ideal) X W (ix3 (0 : Fin 1) a b) = rowCol X W a ⟨b.val, by omega⟩ := by
  pointwise [k0_pay2, k0_pay1, rowCol]
theorem pay3_at (p : FVec Ideal S256x512 .f32) : k0_pay3 (F := Ideal) p (ix3 (0 : Fin 1) a b) = p (ix2 a ⟨256 + b.val, by omega⟩) := by
  pointwise [k0_pay3]
theorem pay6_at (W : FVec Ideal S256x512 .bf16) : k0_pay6 (F := Ideal) (k0_pay4 X) W (ix3 (0 : Fin 1) a b) = rowCol X W a ⟨b.val, by omega⟩ := by
  pointwise [k0_pay6, k0_pay5, k0_pay4, rowCol]
theorem pay7_at (W : FVec Ideal S256x512 .bf16) : k0_pay7 (F := Ideal) (k0_pay4 X) W (ix3 (0 : Fin 1) a b) = rowCol X W a ⟨256 + b.val, by omega⟩ := by
  pointwise [k0_pay7, k0_pay5, k0_pay4, rowCol]
theorem pay9_at (W : FVec Ideal S256x1024 .bf16) : k0_pay9 (F := Ideal) X W (ix3 (0 : Fin 1) a b) = rowCol X W a (colOf 2 b) := by
  pointwise [k0_pay9, k0_pay8, rowCol, colOf]
theorem pay10_at (W : FVec Ideal S256x1024 .bf16) : k0_pay10 (F := Ideal) X W (ix3 (0 : Fin 1) a b) = rowCol X W a (colOf 3 b) := by
  pointwise [k0_pay10, k0_pay8, rowCol, colOf]
theorem pay12_at (W : FVec Ideal S256x1024 .bf16) : k0_pay12 (F := Ideal) X W (ix3 (0 : Fin 1) a b) = rowCol X W a (colOf 0 b) := by
  pointwise [k0_pay12, k0_pay11, rowCol, colOf]
theorem pay13_at (p : FVec Ideal S256x1024 .f32) : k0_pay13 (F := Ideal) p (ix3 (0 : Fin 1) a b) = p (ix2 a (colOf 1 b)) := by
  pointwise [k0_pay13, colOf]

/-! ## The messages passed on: 256 columns of a product and what was received -/

theorem pay15_at (p : FVec Ideal S256x1024 .f32) (g : FVec Ideal S1x256x256 .bf16) : k0_pay15 (F := Ideal) p g (ix3 (0 : Fin 1) a b) = p (ix2 a (colOf 0 b)) + g (ix3 0 a b) := by
  pointwise [k0_pay15, colOf]
theorem pay16_at (p : FVec Ideal S256x1024 .f32) (g : FVec Ideal S1x256x256 .bf16) : k0_pay16 (F := Ideal) p g (ix3 (0 : Fin 1) a b) = p (ix2 a (colOf 2 b)) + g (ix3 0 a b) := by
  pointwise [k0_pay16, colOf]
theorem pay17_at (p : FVec Ideal S256x1024 .f32) (g : FVec Ideal S1x256x256 .bf16) : k0_pay17 (F := Ideal) p g (ix3 (0 : Fin 1) a b) = p (ix2 a (colOf 1 b)) + g (ix3 0 a b) := by
  pointwise [k0_pay17, colOf]
theorem pay19_at (p : FVec Ideal S256x1024 .f32) (g : FVec Ideal S1x256x256 .bf16) : k0_pay19 (F := Ideal) (k0_pay18 p) g (ix3 (0 : Fin 1) a b) = p (ix2 a (colOf 3 b)) + g (ix3 0 a b) := by
  pointwise [k0_pay19, k0_pay18, colOf]

/-! ## The device's own columns and the first of the two messages added to them -/

theorem pay22_at (p : FVec Ideal S256x1024 .f32) (g : FVec Ideal S1x256x256 .bf16) : k0_pay22 (F := Ideal) (k0_pay20 p) (k0_pay21 g) (ix2 a b) = p (ix2 a (colOf 0 b)) + g (ix3 0 a b) := by
  pointwise [k0_pay22, k0_pay20, k0_pay21, colOf]
theorem pay23_at (p : FVec Ideal S256x1024 .f32) (g : FVec Ideal S1x256x256 .bf16) : k0_pay23 (F := Ideal) p g (ix2 a b) = p (ix2 a (colOf 1 b)) + g (ix3 0 a b) := by
  pointwise [k0_pay23, colOf]
theorem pay24_at (p : FVec Ideal S256x1024 .f32) (g : FVec Ideal S1x256x256 .bf16) : k0_pay24 (F := Ideal) p g (ix2 a b) = p (ix2 a (colOf 2 b)) + g (ix3 0 a b) := by
  pointwise [k0_pay24, colOf]
theorem pay25_at (p : FVec Ideal S256x1024 .f32) (g : FVec Ideal S1x256x256 .bf16) : k0_pay25 (F := Ideal) p g (ix2 a b) = p (ix2 a (colOf 3 b)) + g (ix3 0 a b) := by
  pointwise [k0_pay25, colOf]

/-! ## The second message added, and gelu -/

/-- The kernel multiplies `0.044715·y` by `y` twice: the same number. -/
theorem gelu_eq (y : EReal) :
    Ideal.ofBits .f32 0x3F000000#32 * y
      * (1 + Ideal.tanh (Ideal.ofBits .f32 0x3F4C422A#32 * (y + Ideal.ofBits .f32 0x3D372713#32 * y * y * y))) = gelu y := by
  have h : Ideal.ofBits .f32 0x3D372713#32 * y * y * y = Ideal.ofBits .f32 0x3D372713#32 * (y * y * y) := by simp only [mul_assoc]
  rw [h]
  pointwise [gelu]

theorem pay29_at (h : FVec Ideal S256x256 .f32) (g : FVec Ideal S1x256x256 .bf16) : k0_pay29 (F := Ideal) (k0_pay27 h g) (k0_pay28 h g) (ix2 a b) = gelu (h (ix2 a b) + g (ix3 0 a b)) := by
  rw [← gelu_eq]
  pointwise [k0_pay29, k0_pay27, k0_pay28, k0_pay26]
theorem pay30_at (h : FVec Ideal S256x256 .f32) (g : FVec Ideal S1x256x256 .bf16) : k0_pay30 (F := Ideal) h g (ix2 a b) = gelu (h (ix2 a b) + g (ix3 0 a b)) := by
  rw [← gelu_eq]
  pointwise [k0_pay30]
theorem pay31_at (h : FVec Ideal S256x256 .f32) (g : FVec Ideal S1x256x256 .bf16) : k0_pay31 (F := Ideal) h g (ix2 a b) = gelu (h (ix2 a b) + g (ix3 0 a b)) := by
  rw [← gelu_eq]
  pointwise [k0_pay31]
theorem pay32_at (h : FVec Ideal S256x256 .f32) (g : FVec Ideal S1x256x256 .bf16) : k0_pay32 (F := Ideal) h g (ix2 a b) = gelu (h (ix2 a b) + g (ix3 0 a b)) := by
  rw [← gelu_eq]
  pointwise [k0_pay32]

end Cert.RsGelu

end
-- ==== Proof.Shares.lean ====
/-
# The partial products of each device, and what each message carries, over the extended reals
-/
module

public import proofs.«01_k».proof.Proof.Blocks
public import proofs.«01_k».proof.Proof.Parts2
public import Idealize.ShloMosaic.Lib.Pipeline.ValueKit

@[expose] public section

noncomputable section

namespace Cert.RsGelu

open Cert.KernelIdeal Cert.KernelIdeal.Gen
open Idealize.ShloMosaic
open Idealize.ShloMosaic.TcCoe

variable (m : (ℓ : Loc nD τ sig) → Buf (Elt Ideal) ℓ)

/-! ## The arguments as the body reads them -/

/-- Device `e`'s columns of `x`, all 1024 rows; -/
def xAt (e : Dev nD) : FVec Ideal S1024x256 .bf16 := m ((e : Thread nD τ).loc main_arg0)
/-- its rows of `w_mat`, all 1024 columns. -/
def wAt (e : Dev nD) : FVec Ideal S256x1024 .bf16 := m ((e : Thread nD τ).loc main_arg1)

/-- Row `a` of the rows that belong to device `t`. -/
def rowOf (t : Dev nD) (a : Fin 256) : Fin 1024 := ⟨256 * t.val + a.val, by have : t.val < 4 := t.isLt; omega⟩

/-- The one block of each argument is the whole of it. -/
theorem xstg_eq (c : Dev nD) : xstg m c = xAt m c := by
  funext i
  refine congrArg (m ((c : Thread nD τ).loc main_arg0)) (funext fun a => Fin.ext ?_)
  exact Pipeline.Window.rect_emb_val_of_index_zero win0_0 (0 : Fin 1) a (by revert a; decide +kernel) i
theorem wstg_eq (c : Dev nD) : wstg m c = wAt m c := by
  funext i
  refine congrArg (m ((c : Thread nD τ).loc main_arg1)) (funext fun a => Fin.ext ?_)
  exact Pipeline.Window.rect_emb_val_of_index_zero win0_1 (0 : Fin 1) a (by revert a; decide +kernel) i

/-- A load of the 256 rows at `256·t` reads device `t`'s rows. -/
theorem rows_at (off : Fin 2 → ℕ) (hin) (t : Dev nD) (h : off = ![256 * t.val, 0]) (V : FVec Ideal S1024x256 .bf16) (a k : Fin 256) :
    xM.view.readAt (Elt Ideal) (Rect.unit (s := S1024x256) off S256x256.size hin).toLoadRect V (ix2 a k) = V (ix2 (rowOf t a) k) := by
  subst h
  refine congrArg V (funext fun i => Fin.ext ?_)
  match i with
  | 0 => show 256 * t.val + 1 * a.val = 256 * t.val + a.val; omega
  | 1 => show 0 + 1 * k.val = k.val; omega

theorem x2_at (c : Dev nD) (a k : Fin 256) : x2 m c (ix2 a k) = xAt m c (ix2 (rowOf (up (up c)) a) k) := by
  unfold x2; rw [xstg_eq]
  exact rows_at _ _ _ ((k0_off1_eq c 1).trans (by revert c; decide)) _ a k
theorem x3_at (c : Dev nD) (a k : Fin 256) : x3 m c (ix2 a k) = xAt m c (ix2 (rowOf (dn c) a) k) := by
  unfold x3; rw [xstg_eq]
  exact rows_at _ _ _ ((k0_off1_eq c 2).trans (by revert c; decide)) _ a k
theorem x1_at (c : Dev nD) (a k : Fin 256) : x1 m c (ix2 a k) = xAt m c (ix2 (rowOf (up c) a) k) := by
  unfold x1; rw [xstg_eq]
  exact rows_at _ _ _ ((k0_off1_eq c 0).trans (by revert c; decide)) _ a k
theorem x0_at (c : Dev nD) (a k : Fin 256) : x0 m c (ix2 a k) = xAt m c (ix2 (rowOf c a) k) := by
  unfold x0; rw [xstg_eq]
  exact rows_at _ _ _ (k0_off2_eq c) _ a k

/-- A load of `n` columns of `w_mat` from column `o` on. -/
theorem cols_at {n : ℕ} (o : ℕ) (hin) (V : FVec Ideal S256x1024 .bf16) (k : Fin 256) (b : Fin n) (hb : o + b.val < 1024) :
    wM.view.readAt (Elt Ideal) (Rect.unit (s := S256x1024) ![0, o] ![256, n] hin).toLoadRect V (ix2 k b) = V (ix2 k ⟨o + b.val, hb⟩) := by
  refine congrArg V (funext fun i => Fin.ext ?_)
  match i with
  | 0 => show 0 + 1 * k.val = k.val; omega
  | 1 => show o + 1 * b.val = o + b.val; omega

theorem wL_at (c : Dev nD) (k : Fin 256) (b : Fin 512) : wL m c (ix2 k b) = wAt m c (ix2 k ⟨b.val, by omega⟩) := by
  unfold wL; rw [wstg_eq]
  exact (cols_at 0 _ _ k b (by omega)).trans (congrArg (fun y => wAt m c (ix2 k y)) (Fin.ext (Nat.zero_add _)))
theorem wR_at (c : Dev nD) (k : Fin 256) (b : Fin 512) : wR m c (ix2 k b) = wAt m c (ix2 k ⟨512 + b.val, by omega⟩) := by
  unfold wR; rw [wstg_eq]
  exact cols_at 512 _ _ k b (by omega)
theorem wA_at (c : Dev nD) (k : Fin 256) (b : Fin 1024) : wA m c (ix2 k b) = wAt m c (ix2 k b) := by
  unfold wA; rw [wstg_eq]
  exact (cols_at 0 _ _ k b (by omega)).trans (congrArg (fun y => wAt m c (ix2 k y)) (Fin.ext (Nat.zero_add _)))

/-! ## A device's share of one entry -/

/-- Device `e`'s share of entry `(r, b)` of the product: the sum over its own 256 places of the inner dimension. -/
def share (e : Dev nD) (r b : Fin 1024) : EReal := ∑ k : Fin 256, xAt m e (ix2 r k) * wAt m e (ix2 k b)

/-- Rows of `x` that are a device's rows, times columns of `w_mat`: that device's share. -/
theorem rowCol_share {n : ℕ} (e : Dev nD) (r b : Fin 1024) (X : FVec Ideal S256x256 .bf16) (W : FVec Ideal ⟨2, ![256, n]⟩ .bf16)
    (a : Fin 256) (b' : Fin n) (hX : ∀ k, X (ix2 a k) = xAt m e (ix2 r k)) (hW : ∀ k, W (ix2 k b') = wAt m e (ix2 k b)) :
    rowCol X W a b' = share m e r b :=
  Finset.sum_congr rfl fun k _ => by rw [hX k, hW k]

theorem p3_at (c : Dev nD) (a : Fin 256) (b : Fin 1024) : p3 m c (ix2 a b) = share m c (rowOf (dn c) a) b :=
  (pay8_at ..).trans (rowCol_share m c _ _ _ _ _ _ (x3_at m c a) fun k => wA_at m c k b)
theorem p1_at (c : Dev nD) (a : Fin 256) (b : Fin 1024) : p1 m c (ix2 a b) = share m c (rowOf (up c) a) b :=
  (pay11_at ..).trans (rowCol_share m c _ _ _ _ _ _ (x1_at m c a) fun k => wA_at m c k b)
theorem p0_at (c : Dev nD) (a : Fin 256) (b : Fin 1024) : p0 m c (ix2 a b) = share m c (rowOf c a) b :=
  (pay14_at ..).trans (rowCol_share m c _ _ _ _ _ _ (x0_at m c a) fun k => wA_at m c k b)

/-- The first messages are shares for the device two away, of the four column blocks in turn. -/
theorem msg0_at (c : Dev nD) (a b : Fin 256) : msg0 m c (ix3 0 a b) = share m c (rowOf (up (up c)) a) (colOf 0 b) :=
  (pay2_at ..).trans (rowCol_share m c _ _ _ _ _ _ (x2_at m c a) fun k =>
    (wL_at m c k _).trans (congrArg (fun y => wAt m c (ix2 k y)) (Fin.ext (by show b.val = 256 * 0 + b.val; omega))))
theorem msg1_at (c : Dev nD) (a b : Fin 256) : msg1 m c (ix3 0 a b) = share m c (rowOf (up (up c)) a) (colOf 1 b) :=
  (pay3_at ..).trans <| (pay1_at ..).trans (rowCol_share m c _ _ _ _ _ _ (x2_at m c a) fun k =>
    (wL_at m c k _).trans (congrArg (fun y => wAt m c (ix2 k y)) (Fin.ext (by show 256 + b.val = 256 * 1 + b.val; omega))))
theorem msg6_at (c : Dev nD) (a b : Fin 256) : msg6 m c (ix3 0 a b) = share m c (rowOf (up (up c)) a) (colOf 2 b) :=
  (pay6_at ..).trans (rowCol_share m c _ _ _ _ _ _ (x2_at m c a) fun k =>
    (wR_at m c k _).trans (congrArg (fun y => wAt m c (ix2 k y)) (Fin.ext (by show 512 + b.val = 256 * 2 + b.val; omega))))
theorem msg7_at (c : Dev nD) (a b : Fin 256) : msg7 m c (ix3 0 a b) = share m c (rowOf (up (up c)) a) (colOf 3 b) :=
  (pay7_at ..).trans (rowCol_share m c _ _ _ _ _ _ (x2_at m c a) fun k =>
    (wR_at m c k _).trans (congrArg (fun y => wAt m c (ix2 k y)) (Fin.ext (by show 512 + (256 + b.val) = 256 * 3 + b.val; omega))))

/-! ## What a device receives for its own rows -/

/-- From the neighbour above, that neighbour's share of the two right column blocks; -/
theorem got2_at (c : Dev nD) (a b : Fin 256) : got m 2 c (ix3 0 a b) = share m (up c) (rowOf c a) (colOf 2 b) :=
  ((pay9_at ..).trans (rowCol_share m (up c) _ _ _ _ _ _ (x3_at m (up c) a) fun k => wA_at m (up c) k _)).trans (by rw [dn_up])
theorem got3_at (c : Dev nD) (a b : Fin 256) : got m 3 c (ix3 0 a b) = share m (up c) (rowOf c a) (colOf 3 b) :=
  ((pay10_at ..).trans (rowCol_share m (up c) _ _ _ _ _ _ (x3_at m (up c) a) fun k => wA_at m (up c) k _)).trans (by rw [dn_up])
/-- from the one below, its share of the two left ones. -/
theorem got8_at (c : Dev nD) (a b : Fin 256) : got m 8 c (ix3 0 a b) = share m (dn c) (rowOf c a) (colOf 0 b) :=
  ((pay12_at ..).trans (rowCol_share m (dn c) _ _ _ _ _ _ (x1_at m (dn c) a) fun k => wA_at m (dn c) k _)).trans (by rw [up_dn])
theorem got9_at (c : Dev nD) (a b : Fin 256) : got m 9 c (ix3 0 a b) = share m (dn c) (rowOf c a) (colOf 1 b) :=
  ((pay13_at ..).trans (p1_at m (dn c) a _)).trans (by rw [up_dn])

theorem up_four (c : Dev nD) : up (up (up (up c))) = c := by revert c; decide
theorem up_dn_dn (c : Dev nD) : up (up (dn (dn c))) = c := by rw [up_dn, up_dn]

/-- From above, the share of the neighbour above and of the device above that one, of the two left column blocks; -/
theorem got4_at (c : Dev nD) (a b : Fin 256) :
    got m 4 c (ix3 0 a b) = share m (up c) (rowOf c a) (colOf 0 b) + share m (up (up c)) (rowOf c a) (colOf 0 b) := by
  show k0_pay15 (F := Ideal) (p3 m (up c)) (msg0 m (up (up c))) (ix3 0 a b) = _
  rw [pay15_at, p3_at, msg0_at, dn_up]
  exact congrArg (fun t => _ + share m (up (up c)) (rowOf t a) (colOf 0 b)) (up_four c)
theorem got5_at (c : Dev nD) (a b : Fin 256) :
    got m 5 c (ix3 0 a b) = share m (up c) (rowOf c a) (colOf 1 b) + share m (up (up c)) (rowOf c a) (colOf 1 b) := by
  show k0_pay17 (F := Ideal) (p3 m (up c)) (msg1 m (up (up c))) (ix3 0 a b) = _
  rw [pay17_at, p3_at, msg1_at, dn_up]
  exact congrArg (fun t => _ + share m (up (up c)) (rowOf t a) (colOf 1 b)) (up_four c)
/-- from below, those of the two below, of the two right ones. -/
theorem got10_at (c : Dev nD) (a b : Fin 256) :
    got m 10 c (ix3 0 a b) = share m (dn c) (rowOf c a) (colOf 2 b) + share m (dn (dn c)) (rowOf c a) (colOf 2 b) := by
  show k0_pay16 (F := Ideal) (p1 m (dn c)) (msg6 m (dn (dn c))) (ix3 0 a b) = _
  rw [pay16_at, p1_at, msg6_at, up_dn]
  exact congrArg (fun t => _ + share m (dn (dn c)) (rowOf t a) (colOf 2 b)) (up_dn_dn c)
theorem got11_at (c : Dev nD) (a b : Fin 256) :
    got m 11 c (ix3 0 a b) = share m (dn c) (rowOf c a) (colOf 3 b) + share m (dn (dn c)) (rowOf c a) (colOf 3 b) := by
  show k0_pay19 (F := Ideal) (k0_pay18 (p1 m (dn c))) (msg7 m (dn (dn c))) (ix3 0 a b) = _
  rw [pay19_at, p1_at, msg7_at, up_dn]
  exact congrArg (fun t => _ + share m (dn (dn c)) (rowOf t a) (colOf 3 b)) (up_dn_dn c)

/-! ## The result's entry -/

/-- Four shares, taken around the ring from `c` in either direction, are the four devices' shares. -/
theorem sum_up (f : Dev nD → EReal) (c : Dev nD) : f c + f (dn c) + (f (up c) + f (up (up c))) = ∑ e, f e := by
  have h : (Finset.univ : Finset (Dev nD)) = {c, dn c, up c, up (up c)} := by revert c; decide
  have hn : c ∉ ({dn c, up c, up (up c)} : Finset (Dev nD)) ∧ dn c ∉ ({up c, up (up c)} : Finset (Dev nD)) ∧ up c ∉ ({up (up c)} : Finset (Dev nD)) := by
    revert c; decide
  rw [h, Finset.sum_insert hn.1, Finset.sum_insert hn.2.1, Finset.sum_insert hn.2.2, Finset.sum_singleton, add_assoc]
theorem sum_dn (f : Dev nD → EReal) (c : Dev nD) : f c + f (up c) + (f (dn c) + f (dn (dn c))) = ∑ e, f e := by
  rw [← sum_up f c, show dn (dn c) = up (up c) by revert c; decide, add_add_add_comm]

/-- Entry `(a, b)` of device `c`'s column block `q` is gelu of the four devices' shares of it. -/
theorem outBlk_at (c : Dev nD) (q : Fin 4) (a b : Fin 256) :
    outBlk m c q (ix2 a b) = gelu (∑ e, share m e (rowOf c a) (colOf q b)) := by
  match q with
  | 0 =>
    refine (pay29_at ..).trans (congrArg gelu ?_)
    rw [← sum_up _ c, ← got4_at, ← got8_at, ← p0_at]
    exact congrArg (· + _) (pay22_at ..)
  | 1 =>
    refine (pay31_at ..).trans (congrArg gelu ?_)
    rw [← sum_up _ c, ← got5_at, ← got9_at, ← p0_at]
    exact congrArg (· + _) (pay23_at ..)
  | 2 =>
    refine (pay30_at ..).trans (congrArg gelu ?_)
    rw [← sum_dn _ c, ← got10_at, ← got2_at, ← p0_at]
    exact congrArg (· + _) (pay24_at ..)
  | 3 =>
    refine (pay32_at ..).trans (congrArg gelu ?_)
    rw [← sum_dn _ c, ← got11_at, ← got3_at, ← p0_at]
    exact congrArg (· + _) (pay25_at ..)

end Cert.RsGelu

end
-- ==== Proof.Reference.lean ====
/-
# What the reference computes, at one place
-/
module

public import proofs.«01_k».proof.Proof.Blocks
public import proofs.«01_k».proof.Proof.Gen.ReferenceIdeal.Run
public import Idealize.ShloMosaic.Lib.Pointwise

@[expose] public section

noncomputable section

namespace Cert.RsGelu

open Idealize.ShloMosaic
open Idealize.ShloMosaic.TcCoe
open Cert.ReferenceIdeal Cert.ReferenceIdeal.Gen

variable (x w : FVec Ideal S1024x1024 .bf16)

/-- The whole product, rounded to bf16 and widened again. -/
def product : FVec Ideal S1024x1024 .f32 :=
  extf .f32 (truncf .bf16 (Host.dotGeneral (F := Ideal) dot_S1024x1024_S1024x1024_S1024x1024_1_0_0_1_n_n none x w) bitsLt_bf16_f32) bitsLt_bf16_f32

/-- The reference's result, of its two arguments. -/
def refOut : FVec Ideal S1024x1024 .f32 :=
  mulf (mulf (broadcastInDim S1024x1024 ![] bcast_S_S1024x1024 (constant S_ .f32 0x3F000000#32)) (product x w))
    (addf (broadcastInDim S1024x1024 ![] bcast_S_S1024x1024 (constant S_ .f32 0x3F800000#32))
      (Host.tanh (mulf (broadcastInDim S1024x1024 ![] bcast_S_S1024x1024 (constant S_ .f32 0x3F4C422A#32))
        (addf (product x w) (mulf (broadcastInDim S1024x1024 ![] bcast_S_S1024x1024 (constant S_ .f32 0x3D372713#32))
          (mulf (mulf (product x w) (product x w)) (product x w)))))))

/-- An entry of the product is a row of `x` times a column of `w_mat`. -/
theorem product_at (r b : Fin 1024) : product x w (ix2 r b) = ∑ k : Fin 1024, x (ix2 r k) * w (ix2 k b) := by
  pointwise [product]

/-- An entry of the reference's result is gelu of the product's entry. -/
theorem refOut_at (r b : Fin 1024) : refOut x w (ix2 r b) = gelu (∑ k : Fin 1024, x (ix2 r k) * w (ix2 k b)) := by
  rw [← product_at]
  generalize hy : product x w = y
  pointwise [refOut, gelu, hy]

end Cert.RsGelu

end
-- ==== Proof.Equation.lean ====
/-
# The equation: every device's result is its block of the reference's
-/
module

public import proofs.«01_k».proof.Proof.Shares
public import proofs.«01_k».proof.Proof.Result
public import proofs.«01_k».proof.Proof.Reference
public import Idealize.ShloMosaic.Lib.Layout

@[expose] public section

noncomputable section

namespace Cert.RsGelu

open Cert.KernelIdeal Cert.KernelIdeal.Gen
open Idealize.ShloMosaic
open Idealize.ShloMosaic.TcCoe

variable (m : (ℓ : Loc nD τ sig) → Buf (Elt Ideal) ℓ) (x w : FVec Ideal ⟨2, ![1024, 1024]⟩ .bf16)

/-- The arguments lie across the devices as the claim says: `x` cut along its columns, `w_mat` along its rows. -/
def Laid : Prop := ∀ c : Dev nD,
  xAt m c = Layout.block ⟨2, ![1024, 256]⟩ ⟨2, ![1024, 1024]⟩ 1 4 c x ∧ wAt m c = Layout.block ⟨2, ![256, 1024]⟩ ⟨2, ![1024, 1024]⟩ 0 4 c w

variable {m x w} (h : Laid m x w)
include h

/-- Place `k` of device `e`'s part of the inner dimension is place `256·e + k` of the whole. -/
theorem xAt_whole (e : Dev nD) (r : Fin 1024) (k : Fin 256) : xAt m e (ix2 r k) = x (ix2 r (rowOf e k)) := by
  rw [(h e).1, Layout.block_apply]
  refine congrArg x (funext fun i => Fin.ext ?_)
  match i with
  | 0 => rfl
  | 1 => show e.val * 256 + k.val = 256 * e.val + k.val; omega
theorem wAt_whole (e : Dev nD) (k : Fin 256) (b : Fin 1024) : wAt m e (ix2 k b) = w (ix2 (rowOf e k) b) := by
  rw [(h e).2, Layout.block_apply]
  refine congrArg w (funext fun i => Fin.ext ?_)
  match i with
  | 0 => show e.val * 256 + k.val = 256 * e.val + k.val; omega
  | 1 => rfl

/-- The four devices' shares of an entry are the entry of the whole product. -/
theorem sum_share (r b : Fin 1024) : ∑ e : Dev nD, share m e r b = ∑ k : Fin 1024, x (ix2 r k) * w (ix2 k b) := by
  have hf : ∀ (f : Fin 1024 → EReal), ∑ e : Dev nD, ∑ k : Fin 256, f (rowOf e k) = ∑ l : Fin 1024, f l := fun f => by
    rw [← Fintype.sum_prod_type']
    exact Fintype.sum_equiv (finProdFinEquiv (m := 4) (n := 256)) _ _ fun p => congrArg f (Fin.ext (by
      show 256 * p.1.val + p.2.val = p.2.val + 256 * p.1.val; omega))
  rw [← hf]
  exact Finset.sum_congr rfl fun e _ => Finset.sum_congr rfl fun k _ => by rw [xAt_whole h, wAt_whole h]

/-- Device `c`'s result is block `c` of the reference's: rows `256·c` to `256·c + 255`. -/
theorem outAt_eq (c : Dev nD) : outAt m c = Layout.block ⟨2, ![256, 1024]⟩ ⟨2, ![1024, 1024]⟩ 0 4 c (refOut x w) := by
  funext i
  have hi : ((Layout.Tiles.idx (S := ⟨2, ![256, 1024]⟩) (T := ⟨2, ![1024, 1024]⟩) (a := 0) (k := 4) (by decide) c i : Shape.Idx ⟨2, ![1024, 1024]⟩))
      = ix2 (rowOf c (i 0)) (colOf ⟨(i 1).val / 256, Nat.div_lt_of_lt_mul (i 1).isLt⟩ ⟨(i 1).val % 256, Nat.mod_lt _ (by decide)⟩) := by
    refine funext fun a => Fin.ext ?_
    match a with
    | 0 => show c.val * 256 + (i 0).val = 256 * c.val + (i 0).val; omega
    | 1 => exact (Nat.div_add_mod _ 256).symm
  rw [Layout.block_apply, hi, refOut_at, ← sum_share h]
  exact (congrArg (outBlk m c _) (ix2_eq_valueIdx ..).symm).trans (outBlk_at m c _ _ _)

end Cert.RsGelu

end
-- ==== Proof.lean ====
/-
# GEMM, reduce-scatter over a ring of four devices, and gelu: the claims

Proof/Protocol.lean states who sends what to whom and what each message holds; Steps, Parts1, Parts2 and Body run the
kernel's body once, at a symbolic device; Result says what its four stores leave; Obligation, Ghost and Launch make of
it a run of the four devices, for any float values. Blocks, Shares, Reference and Equation are the mathematics over the
extended reals. Here the five claims are read off.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

set_option maxRecDepth 8000

noncomputable section

namespace Cert.Proof

open Idealize.ShloMosaic Idealize.SL.Sem

/-- The kernel and the ideal program have the same body under their one label. -/
theorem body_table_same : Cert.Kernel.defs₀ (F := Bits) = Cert.KernelIdeal.defs₀ := by
  unfold Cert.Kernel.defs₀ Cert.KernelIdeal.defs₀
  congr 1
  funext l a
  match l, a with
  | 0, (t, s) => rfl

theorem defs_same : Cert.Kernel.defs (F := Bits) = Cert.KernelIdeal.defs :=
  congrArg (Pipeline.defs Cert.KernelIdeal.pcfgs) body_table_same

/-- The kernel runs to the end on machine floats, keeps its arguments and leaves every counter at zero. The ideal
program has the same text, so the run proved of it for any float values is this one. -/
theorem frame_kernel : Cert.quiescent_Kernel := fun m ρ _ => by
  rw [defs_same]
  exact (θ_run Cert.KernelIdeal.defs _ _).mono (fun _ h => ⟨fun c => (h.1 c).2, h.2⟩)
    (Cert.RsGelu.run (F := Bits) m ρ)

/-- The same over the extended reals. -/
theorem frame_kernelIdeal : Cert.quiescent_KernelIdeal := fun m ρ _ =>
  (θ_run Cert.KernelIdeal.defs _ _).mono (fun _ h => ⟨fun c => (h.1 c).2, h.2⟩) (Cert.RsGelu.run (F := Ideal) m ρ)

/-- The reference runs to the end and keeps its arguments; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is its block of rows of the reference's result. -/
theorem algebraic : Cert.algebraic_KernelIdeal_ReferenceIdeal := fun m ρ m' ρ' _ hin =>
  ⟨Cert.RsGelu.refOut _ _,
    (θ_run Cert.KernelIdeal.defs _ _).mono (fun _ h c => ⟨(h.1 c).1.trans (Cert.RsGelu.outAt_eq hin c), (h.1 c).2⟩)
      (Cert.RsGelu.run (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
